-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 2048, 1024]⟩ ⟨3, ![2, 2048, 1024]⟩ (Layout.meshBlock [2, 4, 4] ![[0], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = Layout.blockN ⟨2, ![1024, 1024]⟩ ⟨2, ![2048, 1024]⟩ (Layout.meshBlock [2, 4, 4] ![[0], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x2048x1024 : Shape := ⟨3, ![1, 2048, 1024]⟩
abbrev S1024 : Shape := ⟨1, ![1024]⟩
abbrev S1x1024 : Shape := ⟨2, ![1, 1024]⟩
abbrev S1024x1024 : Shape := ⟨2, ![1024, 1024]⟩
abbrev S256x1024 : Shape := ⟨2, ![256, 1024]⟩
abbrev S64x1024 : Shape := ⟨2, ![64, 1024]⟩
abbrev S4 : Shape := ⟨1, ![4]⟩
abbrev S_ : Shape := ⟨0, ![]⟩
abbrev S2 : Shape := ⟨1, ![2]⟩
abbrev S1x64x1024 : Shape := ⟨3, ![1, 64, 1024]⟩
abbrev S1 : Shape := ⟨1, ![1]⟩
abbrev S64 : Shape := ⟨1, ![64]⟩
abbrev S64x1 : Shape := ⟨2, ![64, 1]⟩

abbrev nBuf : Space → Nat
  | .hbm => 4
  | .vmem => 5
  | .smem => 0
  | _ => 0

abbrev bufTy : (tb : Table) → Fin (tcTables nBuf tb) → BufTy
  | .hbm, ⟨0, _⟩ => ⟨S1x2048x1024, .f32⟩
  | .hbm, ⟨1, _⟩ => ⟨S1024, .f32⟩
  | .hbm, ⟨2, _⟩ => ⟨S1x1024, .f32⟩
  | .hbm, ⟨3, _⟩ => ⟨S1024x1024, .f32⟩
  | .local _ .vmem, ⟨0, _⟩ => ⟨S1x1024, .f32⟩
  | .local _ .vmem, ⟨1, _⟩ => ⟨S1024x1024, .f32⟩
  | .local _ .vmem, ⟨2, _⟩ => ⟨S256x1024, .f32⟩
  | .local _ .vmem, ⟨3, _⟩ => ⟨S256x1024, .f32⟩
  | .local _ .vmem, ⟨4, _⟩ => ⟨S64x1024, .f32⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  (ofTc nBuf bufTy 1 39 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_sem0_0 : DmaSem sig := 0
abbrev cc0_sem1_0 : DmaSem sig := 1
abbrev barrier0 : Sem sig := 0

abbrev nD : Nat := 32
abbrev τ : Topo := Topo.v7x

variable {F : FTy → Type} [FloatOps F]

abbrev grid0 : Pipeline.Grid := .none

def k0_off1 (d0 : Dev nD) (c0_i32_20 : BitVec 32) : Fin 3 → Nat :=
  let c0_i32_21 : BitVec 32 := 0#32
  let c1_i32_19 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v37 : BitVec 32 := Scalar.subi c1_i32_19 v2
  let c1024_i32 : BitVec 32 := 1024#32
  let v38 : BitVec 32 := Scalar.muli v37 c1024_i32
  let c2_i32_16 : BitVec 32 := 2#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_5 : BitVec 32 := 2#32
  let c0_i32 : BitVec 32 := 0#32
  let v12 : BitVec 1 := Scalar.cmpi .eq c2_i32_5 c0_i32
  let c1_i32_6 : BitVec 32 := 1#32
  let v13 : BitVec 32 := Scalar.select v12 c1_i32_6 c2_i32_5
  let v14 : BitVec 32 := Scalar.remsi v5 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let v32 : BitVec 32 := Scalar.muli c2_i32_16 v21
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_10 : BitVec 32 := 2#32
  let c0_i32_11 : BitVec 32 := 0#32
  let v22 : BitVec 1 := Scalar.cmpi .eq c2_i32_10 c0_i32_11
  let c1_i32_12 : BitVec 32 := 1#32
  let v23 : BitVec 32 := Scalar.select v22 c1_i32_12 c2_i32_10
  let v24 : BitVec 32 := Scalar.remsi v8 v23
  let c0_i32_14 : BitVec 32 := 0#32
  let v26 : BitVec 1 := Scalar.cmpi .slt v24 c0_i32_14
  let c0_i32_15 : BitVec 32 := 0#32
  let v27 : BitVec 1 := Scalar.cmpi .slt v23 c0_i32_15
  let v28 : BitVec 1 := Scalar.xori v26 v27
  let c0_i32_13 : BitVec 32 := 0#32
  let v25 : BitVec 1 := Scalar.cmpi .ne v24 c0_i32_13
  let v29 : BitVec 1 := Scalar.andi v28 v25
  let v30 : BitVec 32 := Scalar.addi v24 v23
  let v31 : BitVec 32 := Scalar.select v29 v30 v24
  let v33 : BitVec 32 := Scalar.addi v32 v31
  let c256_i32 : BitVec 32 := 256#32
  let v39 : BitVec 32 := Scalar.muli v33 c256_i32
  let v40 : BitVec 32 := Scalar.addi v39 c0_i32_20
  let v41 : BitVec 32 := Scalar.addi v38 v40
  let c0_i32_22 : BitVec 32 := 0#32
  ![0, v41.toNat, 0]
def k0_off2 (d0 : Dev nD) (c0_i32_25 : BitVec 32) : Fin 3 → Nat :=
  let c0_i32_26 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32_23 : BitVec 32 := 1024#32
  let v44 : BitVec 32 := Scalar.muli v2 c1024_i32_23
  let c2_i32_16 : BitVec 32 := 2#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_5 : BitVec 32 := 2#32
  let c0_i32 : BitVec 32 := 0#32
  let v12 : BitVec 1 := Scalar.cmpi .eq c2_i32_5 c0_i32
  let c1_i32_6 : BitVec 32 := 1#32
  let v13 : BitVec 32 := Scalar.select v12 c1_i32_6 c2_i32_5
  let v14 : BitVec 32 := Scalar.remsi v5 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let v32 : BitVec 32 := Scalar.muli c2_i32_16 v21
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_10 : BitVec 32 := 2#32
  let c0_i32_11 : BitVec 32 := 0#32
  let v22 : BitVec 1 := Scalar.cmpi .eq c2_i32_10 c0_i32_11
  let c1_i32_12 : BitVec 32 := 1#32
  let v23 : BitVec 32 := Scalar.select v22 c1_i32_12 c2_i32_10
  let v24 : BitVec 32 := Scalar.remsi v8 v23
  let c0_i32_14 : BitVec 32 := 0#32
  let v26 : BitVec 1 := Scalar.cmpi .slt v24 c0_i32_14
  let c0_i32_15 : BitVec 32 := 0#32
  let v27 : BitVec 1 := Scalar.cmpi .slt v23 c0_i32_15
  let v28 : BitVec 1 := Scalar.xori v26 v27
  let c0_i32_13 : BitVec 32 := 0#32
  let v25 : BitVec 1 := Scalar.cmpi .ne v24 c0_i32_13
  let v29 : BitVec 1 := Scalar.andi v28 v25
  let v30 : BitVec 32 := Scalar.addi v24 v23
  let v31 : BitVec 32 := Scalar.select v29 v30 v24
  let v33 : BitVec 32 := Scalar.addi v32 v31
  let c256_i32_24 : BitVec 32 := 256#32
  let v45 : BitVec 32 := Scalar.muli v33 c256_i32_24
  let v46 : BitVec 32 := Scalar.addi v45 c0_i32_25
  let v47 : BitVec 32 := Scalar.addi v44 v46
  let c0_i32_30 : BitVec 32 := 0#32
  ![0, v47.toNat, 0]
def k0_dev1 (d0 : Dev nD) : Nat :=
  let c0_i32_54 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_53 : BitVec 32 := 16#32
  let v81 : BitVec 32 := Scalar.muli v9 c16_i32_53
  let v82 : BitVec 32 := Scalar.addi c0_i32_54 v81
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_55 : BitVec 32 := 4#32
  let v83 : BitVec 32 := Scalar.muli v5 c4_i32_55
  let v84 : BitVec 32 := Scalar.addi v82 v83
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_56 : BitVec 32 := 1#32
  let v85 : BitVec 32 := Scalar.muli v8 c1_i32_56
  let v86 : BitVec 32 := Scalar.addi v84 v85
  v86.toNat
def k0_dev2 (d0 : Dev nD) : Nat :=
  let c0_i32_59 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_58 : BitVec 32 := 16#32
  let v87 : BitVec 32 := Scalar.muli v2 c16_i32_58
  let v88 : BitVec 32 := Scalar.addi c0_i32_59 v87
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3 : BitVec 32 := 1#32
  let v10 : BitVec 32 := Scalar.xori v5 c1_i32_3
  let c4_i32_60 : BitVec 32 := 4#32
  let v89 : BitVec 32 := Scalar.muli v10 c4_i32_60
  let v90 : BitVec 32 := Scalar.addi v88 v89
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_61 : BitVec 32 := 1#32
  let v91 : BitVec 32 := Scalar.muli v8 c1_i32_61
  let v92 : BitVec 32 := Scalar.addi v90 v91
  v92.toNat
def k0_dev3 (d0 : Dev nD) : Nat :=
  let c0_i32_64 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_63 : BitVec 32 := 16#32
  let v93 : BitVec 32 := Scalar.muli v2 c16_i32_63
  let v94 : BitVec 32 := Scalar.addi c0_i32_64 v93
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_65 : BitVec 32 := 4#32
  let v95 : BitVec 32 := Scalar.muli v5 c4_i32_65
  let v96 : BitVec 32 := Scalar.addi v94 v95
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_4 : BitVec 32 := 1#32
  let v11 : BitVec 32 := Scalar.xori v8 c1_i32_4
  let c1_i32_66 : BitVec 32 := 1#32
  let v97 : BitVec 32 := Scalar.muli v11 c1_i32_66
  let v98 : BitVec 32 := Scalar.addi v96 v97
  v98.toNat
def k0_dev4 (d0 : Dev nD) : Nat :=
  let c0_i32_73 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_72 : BitVec 32 := 16#32
  let v101 : BitVec 32 := Scalar.muli v9 c16_i32_72
  let v102 : BitVec 32 := Scalar.addi c0_i32_73 v101
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_74 : BitVec 32 := 4#32
  let v103 : BitVec 32 := Scalar.muli v5 c4_i32_74
  let v104 : BitVec 32 := Scalar.addi v102 v103
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_75 : BitVec 32 := 1#32
  let v105 : BitVec 32 := Scalar.muli v8 c1_i32_75
  let v106 : BitVec 32 := Scalar.addi v104 v105
  v106.toNat
def k0_dev5 (d0 : Dev nD) : Nat :=
  let c0_i32_88 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_87 : BitVec 32 := 16#32
  let v118 : BitVec 32 := Scalar.muli v9 c16_i32_87
  let v119 : BitVec 32 := Scalar.addi c0_i32_88 v118
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_89 : BitVec 32 := 4#32
  let v120 : BitVec 32 := Scalar.muli v5 c4_i32_89
  let v121 : BitVec 32 := Scalar.addi v119 v120
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_90 : BitVec 32 := 1#32
  let v122 : BitVec 32 := Scalar.muli v8 c1_i32_90
  let v123 : BitVec 32 := Scalar.addi v121 v122
  v123.toNat
def k0_dev6 (d0 : Dev nD) : Nat :=
  let c0_i32_102 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_101 : BitVec 32 := 16#32
  let v136 : BitVec 32 := Scalar.muli v9 c16_i32_101
  let v137 : BitVec 32 := Scalar.addi c0_i32_102 v136
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_103 : BitVec 32 := 4#32
  let v138 : BitVec 32 := Scalar.muli v5 c4_i32_103
  let v139 : BitVec 32 := Scalar.addi v137 v138
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_104 : BitVec 32 := 1#32
  let v140 : BitVec 32 := Scalar.muli v8 c1_i32_104
  let v141 : BitVec 32 := Scalar.addi v139 v140
  v141.toNat
def k0_dev7 (d0 : Dev nD) : Nat :=
  let c0_i32_116 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_115 : BitVec 32 := 16#32
  let v154 : BitVec 32 := Scalar.muli v9 c16_i32_115
  let v155 : BitVec 32 := Scalar.addi c0_i32_116 v154
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_117 : BitVec 32 := 4#32
  let v156 : BitVec 32 := Scalar.muli v5 c4_i32_117
  let v157 : BitVec 32 := Scalar.addi v155 v156
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_118 : BitVec 32 := 1#32
  let v158 : BitVec 32 := Scalar.muli v8 c1_i32_118
  let v159 : BitVec 32 := Scalar.addi v157 v158
  v159.toNat
def k0_off3 (d0 : Dev nD) (c0_i32_145 : BitVec 32) : Fin 2 → Nat :=
  let c2_i32_16 : BitVec 32 := 2#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_5 : BitVec 32 := 2#32
  let c0_i32 : BitVec 32 := 0#32
  let v12 : BitVec 1 := Scalar.cmpi .eq c2_i32_5 c0_i32
  let c1_i32_6 : BitVec 32 := 1#32
  let v13 : BitVec 32 := Scalar.select v12 c1_i32_6 c2_i32_5
  let v14 : BitVec 32 := Scalar.remsi v5 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let v32 : BitVec 32 := Scalar.muli c2_i32_16 v21
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_10 : BitVec 32 := 2#32
  let c0_i32_11 : BitVec 32 := 0#32
  let v22 : BitVec 1 := Scalar.cmpi .eq c2_i32_10 c0_i32_11
  let c1_i32_12 : BitVec 32 := 1#32
  let v23 : BitVec 32 := Scalar.select v22 c1_i32_12 c2_i32_10
  let v24 : BitVec 32 := Scalar.remsi v8 v23
  let c0_i32_14 : BitVec 32 := 0#32
  let v26 : BitVec 1 := Scalar.cmpi .slt v24 c0_i32_14
  let c0_i32_15 : BitVec 32 := 0#32
  let v27 : BitVec 1 := Scalar.cmpi .slt v23 c0_i32_15
  let v28 : BitVec 1 := Scalar.xori v26 v27
  let c0_i32_13 : BitVec 32 := 0#32
  let v25 : BitVec 1 := Scalar.cmpi .ne v24 c0_i32_13
  let v29 : BitVec 1 := Scalar.andi v28 v25
  let v30 : BitVec 32 := Scalar.addi v24 v23
  let v31 : BitVec 32 := Scalar.select v29 v30 v24
  let v33 : BitVec 32 := Scalar.addi v32 v31
  let c256_i32_144 : BitVec 32 := 256#32
  let v200 : BitVec 32 := Scalar.muli v33 c256_i32_144
  let v201 : BitVec 32 := Scalar.addi v200 c0_i32_145
  let v202 : Index := Scalar.indexCast v201
  let c0_146 : Index := 0#32
  ![v202.toNat, 0]
def k0_off4 (d0 : Dev nD) (c0_i32_150 : BitVec 32) : Fin 2 → Nat :=
  let c2_i32_16 : BitVec 32 := 2#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_5 : BitVec 32 := 2#32
  let c0_i32 : BitVec 32 := 0#32
  let v12 : BitVec 1 := Scalar.cmpi .eq c2_i32_5 c0_i32
  let c1_i32_6 : BitVec 32 := 1#32
  let v13 : BitVec 32 := Scalar.select v12 c1_i32_6 c2_i32_5
  let v14 : BitVec 32 := Scalar.remsi v5 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let v32 : BitVec 32 := Scalar.muli c2_i32_16 v21
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_10 : BitVec 32 := 2#32
  let c0_i32_11 : BitVec 32 := 0#32
  let v22 : BitVec 1 := Scalar.cmpi .eq c2_i32_10 c0_i32_11
  let c1_i32_12 : BitVec 32 := 1#32
  let v23 : BitVec 32 := Scalar.select v22 c1_i32_12 c2_i32_10
  let v24 : BitVec 32 := Scalar.remsi v8 v23
  let c0_i32_14 : BitVec 32 := 0#32
  let v26 : BitVec 1 := Scalar.cmpi .slt v24 c0_i32_14
  let c0_i32_15 : BitVec 32 := 0#32
  let v27 : BitVec 1 := Scalar.cmpi .slt v23 c0_i32_15
  let v28 : BitVec 1 := Scalar.xori v26 v27
  let c0_i32_13 : BitVec 32 := 0#32
  let v25 : BitVec 1 := Scalar.cmpi .ne v24 c0_i32_13
  let v29 : BitVec 1 := Scalar.andi v28 v25
  let v30 : BitVec 32 := Scalar.addi v24 v23
  let v31 : BitVec 32 := Scalar.select v29 v30 v24
  let v33 : BitVec 32 := Scalar.addi v32 v31
  let c256_i32_149 : BitVec 32 := 256#32
  let v206 : BitVec 32 := Scalar.muli v33 c256_i32_149
  let v207 : BitVec 32 := Scalar.addi v206 c0_i32_150
  let c0_i32_157 : BitVec 32 := 0#32
  ![v207.toNat, 0]
def k0_dev8 (d0 : Dev nD) : Nat :=
  let c0_i32_154 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_153 : BitVec 32 := 16#32
  let v208 : BitVec 32 := Scalar.muli v2 c16_i32_153
  let v209 : BitVec 32 := Scalar.addi c0_i32_154 v208
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3 : BitVec 32 := 1#32
  let v10 : BitVec 32 := Scalar.xori v5 c1_i32_3
  let c4_i32_155 : BitVec 32 := 4#32
  let v210 : BitVec 32 := Scalar.muli v10 c4_i32_155
  let v211 : BitVec 32 := Scalar.addi v209 v210
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_156 : BitVec 32 := 1#32
  let v212 : BitVec 32 := Scalar.muli v8 c1_i32_156
  let v213 : BitVec 32 := Scalar.addi v211 v212
  v213.toNat
def k0_dev9 (d0 : Dev nD) : Nat :=
  let c0_i32_166 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_165 : BitVec 32 := 16#32
  let v224 : BitVec 32 := Scalar.muli v2 c16_i32_165
  let v225 : BitVec 32 := Scalar.addi c0_i32_166 v224
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_167 : BitVec 32 := 4#32
  let v226 : BitVec 32 := Scalar.muli v5 c4_i32_167
  let v227 : BitVec 32 := Scalar.addi v225 v226
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_4 : BitVec 32 := 1#32
  let v11 : BitVec 32 := Scalar.xori v8 c1_i32_4
  let c1_i32_168 : BitVec 32 := 1#32
  let v228 : BitVec 32 := Scalar.muli v11 c1_i32_168
  let v229 : BitVec 32 := Scalar.addi v227 v228
  v229.toNat
def k0_dev10 (d0 : Dev nD) : Nat :=
  let c0_i32_204 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_203 : BitVec 32 := 16#32
  let v278 : BitVec 32 := Scalar.muli v2 c16_i32_203
  let v279 : BitVec 32 := Scalar.addi c0_i32_204 v278
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3 : BitVec 32 := 1#32
  let v10 : BitVec 32 := Scalar.xori v5 c1_i32_3
  let c4_i32_205 : BitVec 32 := 4#32
  let v280 : BitVec 32 := Scalar.muli v10 c4_i32_205
  let v281 : BitVec 32 := Scalar.addi v279 v280
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_206 : BitVec 32 := 1#32
  let v282 : BitVec 32 := Scalar.muli v8 c1_i32_206
  let v283 : BitVec 32 := Scalar.addi v281 v282
  v283.toNat
def k0_dev11 (d0 : Dev nD) : Nat :=
  let c0_i32_216 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_215 : BitVec 32 := 16#32
  let v294 : BitVec 32 := Scalar.muli v2 c16_i32_215
  let v295 : BitVec 32 := Scalar.addi c0_i32_216 v294
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_217 : BitVec 32 := 4#32
  let v296 : BitVec 32 := Scalar.muli v5 c4_i32_217
  let v297 : BitVec 32 := Scalar.addi v295 v296
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_4 : BitVec 32 := 1#32
  let v11 : BitVec 32 := Scalar.xori v8 c1_i32_4
  let c1_i32_218 : BitVec 32 := 1#32
  let v298 : BitVec 32 := Scalar.muli v11 c1_i32_218
  let v299 : BitVec 32 := Scalar.addi v297 v298
  v299.toNat
def k0_dev12 (d0 : Dev nD) : Nat :=
  let c0_i32_254 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_253 : BitVec 32 := 16#32
  let v348 : BitVec 32 := Scalar.muli v2 c16_i32_253
  let v349 : BitVec 32 := Scalar.addi c0_i32_254 v348
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3 : BitVec 32 := 1#32
  let v10 : BitVec 32 := Scalar.xori v5 c1_i32_3
  let c4_i32_255 : BitVec 32 := 4#32
  let v350 : BitVec 32 := Scalar.muli v10 c4_i32_255
  let v351 : BitVec 32 := Scalar.addi v349 v350
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_256 : BitVec 32 := 1#32
  let v352 : BitVec 32 := Scalar.muli v8 c1_i32_256
  let v353 : BitVec 32 := Scalar.addi v351 v352
  v353.toNat
def k0_dev13 (d0 : Dev nD) : Nat :=
  let c0_i32_266 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_265 : BitVec 32 := 16#32
  let v364 : BitVec 32 := Scalar.muli v2 c16_i32_265
  let v365 : BitVec 32 := Scalar.addi c0_i32_266 v364
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_267 : BitVec 32 := 4#32
  let v366 : BitVec 32 := Scalar.muli v5 c4_i32_267
  let v367 : BitVec 32 := Scalar.addi v365 v366
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_4 : BitVec 32 := 1#32
  let v11 : BitVec 32 := Scalar.xori v8 c1_i32_4
  let c1_i32_268 : BitVec 32 := 1#32
  let v368 : BitVec 32 := Scalar.muli v11 c1_i32_268
  let v369 : BitVec 32 := Scalar.addi v367 v368
  v369.toNat
def k0_dev14 (d0 : Dev nD) : Nat :=
  let c0_i32_304 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_303 : BitVec 32 := 16#32
  let v418 : BitVec 32 := Scalar.muli v2 c16_i32_303
  let v419 : BitVec 32 := Scalar.addi c0_i32_304 v418
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3 : BitVec 32 := 1#32
  let v10 : BitVec 32 := Scalar.xori v5 c1_i32_3
  let c4_i32_305 : BitVec 32 := 4#32
  let v420 : BitVec 32 := Scalar.muli v10 c4_i32_305
  let v421 : BitVec 32 := Scalar.addi v419 v420
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_306 : BitVec 32 := 1#32
  let v422 : BitVec 32 := Scalar.muli v8 c1_i32_306
  let v423 : BitVec 32 := Scalar.addi v421 v422
  v423.toNat
def k0_dev15 (d0 : Dev nD) : Nat :=
  let c0_i32_316 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_315 : BitVec 32 := 16#32
  let v434 : BitVec 32 := Scalar.muli v2 c16_i32_315
  let v435 : BitVec 32 := Scalar.addi c0_i32_316 v434
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_317 : BitVec 32 := 4#32
  let v436 : BitVec 32 := Scalar.muli v5 c4_i32_317
  let v437 : BitVec 32 := Scalar.addi v435 v436
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_4 : BitVec 32 := 1#32
  let v11 : BitVec 32 := Scalar.xori v8 c1_i32_4
  let c1_i32_318 : BitVec 32 := 1#32
  let v438 : BitVec 32 := Scalar.muli v11 c1_i32_318
  let v439 : BitVec 32 := Scalar.addi v437 v438
  v439.toNat
def k0_off5 (d0 : Dev nD) (c1_i32_18 : BitVec 32) (c0_i32_324 : BitVec 32) : Fin 2 → Nat :=
  let c2_i32_16 : BitVec 32 := 2#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_5 : BitVec 32 := 2#32
  let c0_i32 : BitVec 32 := 0#32
  let v12 : BitVec 1 := Scalar.cmpi .eq c2_i32_5 c0_i32
  let c1_i32_6 : BitVec 32 := 1#32
  let v13 : BitVec 32 := Scalar.select v12 c1_i32_6 c2_i32_5
  let v14 : BitVec 32 := Scalar.remsi v5 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let v32 : BitVec 32 := Scalar.muli c2_i32_16 v21
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_10 : BitVec 32 := 2#32
  let c0_i32_11 : BitVec 32 := 0#32
  let v22 : BitVec 1 := Scalar.cmpi .eq c2_i32_10 c0_i32_11
  let c1_i32_12 : BitVec 32 := 1#32
  let v23 : BitVec 32 := Scalar.select v22 c1_i32_12 c2_i32_10
  let v24 : BitVec 32 := Scalar.remsi v8 v23
  let c0_i32_14 : BitVec 32 := 0#32
  let v26 : BitVec 1 := Scalar.cmpi .slt v24 c0_i32_14
  let c0_i32_15 : BitVec 32 := 0#32
  let v27 : BitVec 1 := Scalar.cmpi .slt v23 c0_i32_15
  let v28 : BitVec 1 := Scalar.xori v26 v27
  let c0_i32_13 : BitVec 32 := 0#32
  let v25 : BitVec 1 := Scalar.cmpi .ne v24 c0_i32_13
  let v29 : BitVec 1 := Scalar.andi v28 v25
  let v30 : BitVec 32 := Scalar.addi v24 v23
  let v31 : BitVec 32 := Scalar.select v29 v30 v24
  let v33 : BitVec 32 := Scalar.addi v32 v31
  let v35 : BitVec 32 := Scalar.xori v33 c1_i32_18
  let c256_i32_323 : BitVec 32 := 256#32
  let v448 : BitVec 32 := Scalar.muli v35 c256_i32_323
  let v449 : BitVec 32 := Scalar.addi v448 c0_i32_324
  let c0_i32_359 : BitVec 32 := 0#32
  ![v449.toNat, 0]
def k0_dev16 (d0 : Dev nD) : Nat :=
  let c0_i32_368 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_367 : BitVec 32 := 16#32
  let v492 : BitVec 32 := Scalar.muli v2 c16_i32_367
  let v493 : BitVec 32 := Scalar.addi c0_i32_368 v492
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3 : BitVec 32 := 1#32
  let v10 : BitVec 32 := Scalar.xori v5 c1_i32_3
  let c4_i32_369 : BitVec 32 := 4#32
  let v494 : BitVec 32 := Scalar.muli v10 c4_i32_369
  let v495 : BitVec 32 := Scalar.addi v493 v494
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_370 : BitVec 32 := 1#32
  let v496 : BitVec 32 := Scalar.muli v8 c1_i32_370
  let v497 : BitVec 32 := Scalar.addi v495 v496
  v497.toNat
def k0_dev17 (d0 : Dev nD) : Nat :=
  let c0_i32_388 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_387 : BitVec 32 := 16#32
  let v518 : BitVec 32 := Scalar.muli v2 c16_i32_387
  let v519 : BitVec 32 := Scalar.addi c0_i32_388 v518
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3 : BitVec 32 := 1#32
  let v10 : BitVec 32 := Scalar.xori v5 c1_i32_3
  let c4_i32_389 : BitVec 32 := 4#32
  let v520 : BitVec 32 := Scalar.muli v10 c4_i32_389
  let v521 : BitVec 32 := Scalar.addi v519 v520
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_390 : BitVec 32 := 1#32
  let v522 : BitVec 32 := Scalar.muli v8 c1_i32_390
  let v523 : BitVec 32 := Scalar.addi v521 v522
  v523.toNat
def k0_dev18 (d0 : Dev nD) : Nat :=
  let c0_i32_408 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_407 : BitVec 32 := 16#32
  let v544 : BitVec 32 := Scalar.muli v2 c16_i32_407
  let v545 : BitVec 32 := Scalar.addi c0_i32_408 v544
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_409 : BitVec 32 := 4#32
  let v546 : BitVec 32 := Scalar.muli v5 c4_i32_409
  let v547 : BitVec 32 := Scalar.addi v545 v546
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_4 : BitVec 32 := 1#32
  let v11 : BitVec 32 := Scalar.xori v8 c1_i32_4
  let c1_i32_410 : BitVec 32 := 1#32
  let v548 : BitVec 32 := Scalar.muli v11 c1_i32_410
  let v549 : BitVec 32 := Scalar.addi v547 v548
  v549.toNat
def k0_dev19 (d0 : Dev nD) : Nat :=
  let c0_i32_428 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_427 : BitVec 32 := 16#32
  let v570 : BitVec 32 := Scalar.muli v2 c16_i32_427
  let v571 : BitVec 32 := Scalar.addi c0_i32_428 v570
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_429 : BitVec 32 := 4#32
  let v572 : BitVec 32 := Scalar.muli v5 c4_i32_429
  let v573 : BitVec 32 := Scalar.addi v571 v572
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_4 : BitVec 32 := 1#32
  let v11 : BitVec 32 := Scalar.xori v8 c1_i32_4
  let c1_i32_430 : BitVec 32 := 1#32
  let v574 : BitVec 32 := Scalar.muli v11 c1_i32_430
  let v575 : BitVec 32 := Scalar.addi v573 v574
  v575.toNat
abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S2x2048x1024 : Shape := ⟨3, ![2, 2048, 1024]⟩
abbrev S1024 : Shape := ⟨1, ![1024]⟩
abbrev S_ : Shape := ⟨0, ![]⟩
abbrev S2048x1024 : Shape := ⟨2, ![2048, 1024]⟩
abbrev S2048 : Shape := ⟨1, ![2048]⟩
abbrev S2048x1 : Shape := ⟨2, ![2048, 1]⟩
abbrev S1x1024 : Shape := ⟨2, ![1, 1024]⟩

abbrev nBuf : Space → Nat
  | .hbm => 20
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024, .f32⟩
  | .hbm, ⟨2, _⟩ => ⟨S_, .f32⟩
  | .hbm, ⟨3, _⟩ => ⟨S2048x1024, .f32⟩
  | .hbm, ⟨4, _⟩ => ⟨S2048x1024, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1024, .f32⟩
  | .hbm, ⟨16, _⟩ => ⟨S2048x1024, .f32⟩
  | .hbm, ⟨17, _⟩ => ⟨S1x1024, .f32⟩
  | .hbm, ⟨18, _⟩ => ⟨S2048x1024, .f32⟩
  | .hbm, ⟨19, _⟩ => ⟨S2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_cst_2 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Proof.Mesh.lean ====
/-
  The mesh and the pieces the kernel moves. A device is a triple (x, y, z) of a 2 × 4 × 4 mesh; each talks to
  three neighbours: the device across x (`pX`), the device next to it along y in its pair (`pY`) and the device
  next to it along z in its pair (`pZ`). The result of a device is cut in four quarters of 256 rows, each in
  four chunks of 64 rows; `qt c` is the quarter device `c` computes itself. This module names the pieces of
  memory (`sndM`, `rcvM`, `locM`, `pOth`, `pOwn`, `outM`), shows that the kernel's computed addresses are
  these, and names what the pieces hold.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Memref
public import Idealize.ShloMosaic.Lib.Tactic
public import Idealize.ShloMosaic.Lib.Decide

@[expose] public section

noncomputable section

namespace Cert.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem

variable {F : FTy → Type} [FloatOps F]

/-! ## Neighbours -/

/-- The device across the x axis. -/
def pX (c : Dev nD) : Dev nD := ⟨(c.val + 16) % 32, Nat.mod_lt _ (by decide)⟩
/-- The other device of the pair along y. -/
def pY (c : Dev nD) : Dev nD := ⟨(if c.val / 4 % 2 = 0 then c.val + 4 else c.val - 4) % 32, Nat.mod_lt _ (by decide)⟩
/-- The other device of the pair along z. -/
def pZ (c : Dev nD) : Dev nD := ⟨(if c.val % 2 = 0 then c.val + 1 else c.val - 1) % 32, Nat.mod_lt _ (by decide)⟩
/-- The device diagonally across in the square of the two pairs. -/
def pD (c : Dev nD) : Dev nD := pY (pZ c)

theorem pX_pX (c : Dev nD) : pX (pX c) = c := by revert c; decide +kernel
theorem pY_pY (c : Dev nD) : pY (pY c) = c := by revert c; decide +kernel
theorem pZ_pZ (c : Dev nD) : pZ (pZ c) = c := by revert c; decide +kernel
theorem pZ_pY (c : Dev nD) : pZ (pY c) = pD c := by revert c; decide +kernel
theorem pY_pZ (c : Dev nD) : pY (pZ c) = pD c := rfl
theorem pD_pY (c : Dev nD) : pD (pY c) = pZ c := by revert c; decide +kernel
theorem pD_pZ (c : Dev nD) : pD (pZ c) = pY c := by revert c; decide +kernel

/-- The three neighbours by number: 0 across x, 1 along y, 2 along z. -/
def nb : Fin 3 → Dev nD → Dev nD
  | 0 => pX
  | 1 => pY
  | 2 => pZ
theorem nb_nb (d : Fin 3) (c : Dev nD) : nb d (nb d c) = c := by revert d c; decide +kernel
/-- A neighbour relation as a permutation of the devices. -/
def nbE (d : Fin 3) : Dev nD ≃ Dev nD := ⟨nb d, nb d, nb_nb d, nb_nb d⟩

theorem dev1_eq (c : Dev nD) : (⟨k0_dev1 c, k0_dev1_lt c⟩ : Dev nD) = pX c := Fin.ext (by revert c; decide +kernel)
theorem dev2_eq (c : Dev nD) : (⟨k0_dev2 c, k0_dev2_lt c⟩ : Dev nD) = pY c := Fin.ext (by revert c; decide +kernel)
theorem dev3_eq (c : Dev nD) : (⟨k0_dev3 c, k0_dev3_lt c⟩ : Dev nD) = pZ c := Fin.ext (by revert c; decide +kernel)
theorem dev4_eq (c : Dev nD) : (⟨k0_dev4 c, k0_dev4_lt c⟩ : Dev nD) = pX c := Fin.ext (by revert c; decide +kernel)
theorem dev5_eq (c : Dev nD) : (⟨k0_dev5 c, k0_dev5_lt c⟩ : Dev nD) = pX c := Fin.ext (by revert c; decide +kernel)
theorem dev6_eq (c : Dev nD) : (⟨k0_dev6 c, k0_dev6_lt c⟩ : Dev nD) = pX c := Fin.ext (by revert c; decide +kernel)
theorem dev7_eq (c : Dev nD) : (⟨k0_dev7 c, k0_dev7_lt c⟩ : Dev nD) = pX c := Fin.ext (by revert c; decide +kernel)
theorem dev8_eq (c : Dev nD) : (⟨k0_dev8 c, k0_dev8_lt c⟩ : Dev nD) = pY c := Fin.ext (by revert c; decide +kernel)
theorem dev9_eq (c : Dev nD) : (⟨k0_dev9 c, k0_dev9_lt c⟩ : Dev nD) = pZ c := Fin.ext (by revert c; decide +kernel)
theorem dev10_eq (c : Dev nD) : (⟨k0_dev10 c, k0_dev10_lt c⟩ : Dev nD) = pY c := Fin.ext (by revert c; decide +kernel)
theorem dev11_eq (c : Dev nD) : (⟨k0_dev11 c, k0_dev11_lt c⟩ : Dev nD) = pZ c := Fin.ext (by revert c; decide +kernel)
theorem dev12_eq (c : Dev nD) : (⟨k0_dev12 c, k0_dev12_lt c⟩ : Dev nD) = pY c := Fin.ext (by revert c; decide +kernel)
theorem dev13_eq (c : Dev nD) : (⟨k0_dev13 c, k0_dev13_lt c⟩ : Dev nD) = pZ c := Fin.ext (by revert c; decide +kernel)
theorem dev14_eq (c : Dev nD) : (⟨k0_dev14 c, k0_dev14_lt c⟩ : Dev nD) = pY c := Fin.ext (by revert c; decide +kernel)
theorem dev15_eq (c : Dev nD) : (⟨k0_dev15 c, k0_dev15_lt c⟩ : Dev nD) = pZ c := Fin.ext (by revert c; decide +kernel)
theorem dev16_eq (c : Dev nD) : (⟨k0_dev16 c, k0_dev16_lt c⟩ : Dev nD) = pY c := Fin.ext (by revert c; decide +kernel)
theorem dev17_eq (c : Dev nD) : (⟨k0_dev17 c, k0_dev17_lt c⟩ : Dev nD) = pY c := Fin.ext (by revert c; decide +kernel)
theorem dev18_eq (c : Dev nD) : (⟨k0_dev18 c, k0_dev18_lt c⟩ : Dev nD) = pZ c := Fin.ext (by revert c; decide +kernel)
theorem dev19_eq (c : Dev nD) : (⟨k0_dev19 c, k0_dev19_lt c⟩ : Dev nD) = pZ c := Fin.ext (by revert c; decide +kernel)

/-! ## Quarters and offsets -/

/-- The quarter of the result a device computes itself. -/
def qt (c : Dev nD) : Fin 4 := ⟨(2 * (c.val / 4 % 2) + c.val % 2) % 4, Nat.mod_lt _ (by decide)⟩
/-- The device's coordinate on the x axis. -/
def xc (c : Dev nD) : ℕ := c.val / 16

theorem off1_eq (c : Dev nD) (k : Fin 4) :
    k0_off1 c (BitVec.ofNat 32 (64 * k.val)) = ![0, (1 - xc c) * 1024 + 256 * (qt c).val + 64 * k.val, 0] := by
  revert c k; decide +kernel
theorem off2_eq (c : Dev nD) (k : Fin 4) :
    k0_off2 c (BitVec.ofNat 32 (64 * k.val)) = ![0, xc c * 1024 + 256 * (qt c).val + 64 * k.val, 0] := by
  revert c k; decide +kernel
theorem off3_eq (c : Dev nD) (k : Fin 4) :
    k0_off3 c (BitVec.ofNat 32 (64 * k.val)) = ![256 * (qt c).val + 64 * k.val, 0] := by
  revert c k; decide +kernel
theorem off4_eq (c : Dev nD) (k : Fin 4) :
    k0_off4 c (BitVec.ofNat 32 (64 * k.val)) = ![256 * (qt c).val + 64 * k.val, 0] := by
  revert c k; decide +kernel
theorem off5z_eq (c : Dev nD) (k : Fin 4) :
    k0_off5 c 1#32 (BitVec.ofNat 32 (64 * k.val)) = ![256 * (qt (pZ c)).val + 64 * k.val, 0] := by
  revert c k; decide +kernel
theorem off5y_eq (c : Dev nD) (k : Fin 4) :
    k0_off5 c 2#32 (BitVec.ofNat 32 (64 * k.val)) = ![256 * (qt (pY c)).val + 64 * k.val, 0] := by
  revert c k; decide +kernel
theorem off5d_eq (c : Dev nD) (k : Fin 4) :
    k0_off5 c 3#32 (BitVec.ofNat 32 (64 * k.val)) = ![256 * (qt (pD c)).val + 64 * k.val, 0] := by
  revert c k; decide +kernel

theorem chunk_inb (k : Fin 4) : ∀ a, (![64 * k.val, 0] : Fin 2 → ℕ) a + S64x1024.size a ≤ S256x1024.size a := by
  revert k; decide +kernel
theorem out_inb (a k : Fin 4) : ∀ i, (![256 * a.val + 64 * k.val, 0] : Fin 2 → ℕ) i + S64x1024.size i ≤ S1024x1024.size i := by
  revert a k; decide +kernel

/-! ## The pieces of memory -/

/-- The buffer the first outgoing chunk is staged in. -/
abbrev sndM : Memref sig .tc .vmem S64x1024 .f32 := Memref.whole cc0_scratch2
/-- Chunk `k` of the landing buffer. -/
def rcvM (k : Fin 4) : Memref sig .tc .vmem S64x1024 .f32 :=
  (Memref.whole cc0_scratch0).slice (Rect.unit (s := S256x1024) ![64 * k.val, 0] S64x1024.size (chunk_inb k)) (fun _ => rfl)
/-- Chunk `k` of the buffer of the device's own rows. -/
def locM (k : Fin 4) : Memref sig .tc .vmem S64x1024 .f32 :=
  (Memref.whole cc0_scratch1).slice (Rect.unit (s := S256x1024) ![64 * k.val, 0] S64x1024.size (chunk_inb k)) (fun _ => rfl)
/-- Chunk `k` of the rows of the argument that go to the device across x. -/
def pOth (c : Dev nD) (k : Fin 4) : Memref sig .tc .hbm S64x1024 .f32 :=
  ((Memref.whole main_arg0).slice (Rect.unit (s := S1x2048x1024) (k0_off1 c (BitVec.ofNat 32 (64 * k.val))) S1x64x1024.size (k0_off1_inb c k)) (fun _ => rfl)).squeeze
    S64x1024 squeezes_S1x64x1024_S64x1024
/-- Chunk `k` of the rows of the argument the device keeps. -/
def pOwn (c : Dev nD) (k : Fin 4) : Memref sig .tc .hbm S64x1024 .f32 :=
  ((Memref.whole main_arg0).slice (Rect.unit (s := S1x2048x1024) (k0_off2 c (BitVec.ofNat 32 (64 * k.val))) S1x64x1024.size (k0_off2_inb c k)) (fun _ => rfl)).squeeze
    S64x1024 squeezes_S1x64x1024_S64x1024
/-- The rectangle of chunk `k` of quarter `a` of the result. -/
abbrev outR (a k : Fin 4) : Rect S1024x1024 := Rect.unit (s := S1024x1024) ![256 * a.val + 64 * k.val, 0] S64x1024.size (out_inb a k)
/-- Chunk `k` of quarter `a` of the result's staging buffer. -/
def outM (a k : Fin 4) : Memref sig .tc .vmem S64x1024 .f32 :=
  (Memref.whole cc0_stg1_0).slice (outR a k) (fun _ => rfl)

theorem off4_slice (c : Dev nD) (k : Fin 4) :
    (Memref.whole cc0_stg1_0).slice (Rect.unit (s := S1024x1024) (k0_off4 c (BitVec.ofNat 32 (64 * k.val))) S64x1024.size (k0_off4_inb c k)) (fun _ => rfl)
      = outM (qt c) k :=
  Memref.slice_unit_congr _ (off4_eq c k) _ _ _ (fun _ => rfl)
theorem off5z_slice (c : Dev nD) (k : Fin 4) :
    (Memref.whole cc0_stg1_0).slice (Rect.unit (s := S1024x1024) (k0_off5 c 1#32 (BitVec.ofNat 32 (64 * k.val))) S64x1024.size (k0_off5_inb c 0 k)) (fun _ => rfl)
      = outM (qt (pZ c)) k :=
  Memref.slice_unit_congr _ (off5z_eq c k) _ _ _ (fun _ => rfl)
theorem off5y_slice (c : Dev nD) (k : Fin 4) :
    (Memref.whole cc0_stg1_0).slice (Rect.unit (s := S1024x1024) (k0_off5 c 2#32 (BitVec.ofNat 32 (64 * k.val))) S64x1024.size (k0_off5_inb c 1 k)) (fun _ => rfl)
      = outM (qt (pY c)) k :=
  Memref.slice_unit_congr _ (off5y_eq c k) _ _ _ (fun _ => rfl)
theorem off5d_slice (c : Dev nD) (k : Fin 4) :
    (Memref.whole cc0_stg1_0).slice (Rect.unit (s := S1024x1024) (k0_off5 c 3#32 (BitVec.ofNat 32 (64 * k.val))) S64x1024.size (k0_off5_inb c 2 k)) (fun _ => rfl)
      = outM (qt (pD c)) k :=
  Memref.slice_unit_congr _ (off5d_eq c k) _ _ _ (fun _ => rfl)

/-- What a transfer of one chunk credits. -/
abbrev N : ℕ := sndM.view.dmaCredit
theorem N_pos : 0 < N := View.dmaCredit_pos _ (by decide)
theorem credit_rcvM (k : Fin 4) : (rcvM k).view.dmaCredit = N := rfl
theorem credit_locM (k : Fin 4) : (locM k).view.dmaCredit = N := rfl
theorem credit_outM (a k : Fin 4) : (outM a k).view.dmaCredit = N := rfl
theorem credit_pOth (c : Dev nD) (k : Fin 4) : (pOth c k).view.dmaCredit = N := rfl

/-! ## What the pieces hold -/

variable (m : (ℓ : Loc nD τ sig) → Buf (Elt F) ℓ)

/-- The chunk device `c` sends across x. -/
def snd (c : Dev nD) (k : Fin 4) : S64x1024.Idx → Elt F .f32 :=
  (pOth c k).view.read (Elt F) (m ((c : Thread nD τ).loc main_arg0))
/-- The chunk device `c` keeps. -/
def own (c : Dev nD) (k : Fin 4) : S64x1024.Idx → Elt F .f32 :=
  (pOwn c k).view.read (Elt F) (m ((c : Thread nD τ).loc main_arg0))

/-- A device's buffers at launch. -/
abbrev V₀ (c : Dev nD) : Valuation τ sig (Elt F) := fun b => m ((c : Dev nD), b)
/-- A device's buffers when the kernel is entered. -/
abbrev V₁ (c : Dev nD) : Valuation τ sig (Elt F) := StableHlo.after hostOps0 (V₀ m c)

/-- The scale row as the kernel reads it. -/
def gam (c : Dev nD) : S1x1024.Idx → Elt F .f32 := V₁ m c main_v1

/-- The chunk of the result device `c` computes. -/
def res (c : Dev nD) (k : Fin 4) : S64x1024.Idx → Elt F .f32 :=
  k0_pay4 (own m c k) (snd m (pX c) k) (gam m c)

end Cert.Talk

end
-- ==== Proof.Sched.lean ====
/-
  The protocol. Every semaphore of the kernel is used for one round. The barrier cell of a device has three
  duties, one unit from each neighbour: a neighbour's unit hands over the memory this device will write there
  and says that the neighbour's receive cells are in use. Every transfer cell has one duty: what a receive cell
  gets is the landed chunk at named contents, what a send cell gets is the source back.
-/
module

public import proofs.«01_k».proof.Proof.Mesh
public import Idealize.ShloMosaic.Lib.Pipeline.Regions
public import Idealize.ShloMosaic.Lib.Pipeline.Kit
public import Idealize.ShloMosaic.Lib.Rounds
public import Idealize.ShloMosaic.Lib.StableHlo
public import Idealize.ShloMosaic.Lib.Pipeline.RegionTalk

@[expose] public section

noncomputable section

namespace Cert.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline's copy and the protocol's -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

variable (m : (ℓ : Loc nD τ sig) → Buf (Elt F) ℓ)

/-! ## Cells -/

/-- A cell of device `c`. -/
abbrev cell (c : Dev nD) (s : SemLoc sig) : GSem nD τ sig := ((c : Thread nD τ), s)
/-- The barrier's semaphore. -/
abbrev barL : SemLoc sig := .reg barrier0
/-- The kernel's own transfer semaphores. -/
abbrev osem : Fin 37 → SemLoc sig := fun k => .dma (⟨2 + k.val, by omega⟩ : Fin 39)

theorem osem_inj {a b : Fin 37} (h : osem a = osem b) : a = b := by
  have h' : (⟨2 + a.val, by omega⟩ : Fin 39) = ⟨2 + b.val, by omega⟩ := SemLoc.dma.inj h
  exact Fin.ext (by have := congrArg Fin.val h'; simp only at this; omega)
theorem osem_of (s : DmaSem sig) (h : 2 ≤ s.val) : ∃ j : Fin 37, (SemLoc.dma s : SemLoc sig) = osem j := by
  have h39 : s.val < 39 := s.isLt
  exact ⟨⟨s.val - 2, by omega⟩, congrArg SemLoc.dma (Fin.ext (by show s.val = 2 + (s.val - 2); omega))⟩

/-- What one duty of a cell adds to it. -/
def amt : SemLoc sig → ℕ
  | .reg _ => 1
  | .dma _ => N
theorem amt_pos (s : SemLoc sig) : 0 < amt s := by
  cases s
  · exact Nat.one_pos
  · exact N_pos

/-- The level of a cell: a device may wait on a cell while it owes only to cells above it. -/
def lvl : SemLoc sig → ℕ
  | .reg _ => 1
  | .dma s => if s.val < 11 then 0 else if s.val < 15 then 2 else if s.val < 19 then 0 else if s.val < 23 then 3 else if s.val < 27 then 0
      else if s.val < 31 then 3 else if s.val < 33 then 0 else if s.val < 35 then 4 else if s.val < 37 then 0 else 4

/-! ## Payloads -/

/-- The full share's two halves. -/
abbrev half1 : PosShare TreeShare := fullShare.left
abbrev half2 : PosShare TreeShare := fullShare.right

/-- A piece of device `c`'s memory at contents not chosen. -/
def anyOf (c : Dev nD) {sp : Space} {sh : Shape} (M : Memref sig .tc sp sh .f32) : sProp 𝕄 :=
  iprop(∃ X : sh.Idx → Elt F .f32, owns (c : Thread nD τ) M fullShare X)

/-- Device `c` holds, at share `q`, the chunk device `e` computed, in the place of that quarter. -/
def have_ (c e : Dev nD) (k : Fin 4) (q : PosShare TreeShare) : sProp 𝕄 :=
  owns (c : Thread nD τ) (outM (qt e) k) q (res m e k)

/-- What a local copy into the buffer of own rows gives: the landed chunk and the source. -/
def locPay (c : Dev nD) (k : Fin 4) : sProp 𝕄 :=
  iprop(owns (c : Thread nD τ) (locM k) fullShare (own m c k) ∗ owns (c : Thread nD τ) (pOwn c k) fullShare (own m c k))
/-- What staging the first outgoing chunk gives. -/
def stgPay (c : Dev nD) : sProp 𝕄 :=
  iprop(owns (c : Thread nD τ) sndM fullShare (snd m c 0) ∗ owns (c : Thread nD τ) (pOth c 0) fullShare (snd m c 0))
/-- A chunk sent across x, back at the sender. -/
def xsPay (c : Dev nD) (k : Fin 4) : sProp 𝕄 := owns (c : Thread nD τ) (pOth c k) fullShare (snd m c k)
/-- A chunk received across x. -/
def xrPay (c : Dev nD) (k : Fin 4) : sProp 𝕄 := owns (c : Thread nD τ) (rcvM k) fullShare (snd m (pX c) k)

/-- What transfer semaphore `n` of device `c` delivers. -/
def pay (c : Dev nD) (n : ℕ) : sProp 𝕄 :=
  match n with
  | 2 => locPay m c 0
  | 3 => locPay m c 1
  | 4 => locPay m c 2
  | 5 => locPay m c 3
  | 6 => stgPay m c
  | 7 => owns (c : Thread nD τ) sndM fullShare (snd m c 0)
  | 8 => xsPay m c 1
  | 9 => xsPay m c 2
  | 10 => xsPay m c 3
  | 11 => xrPay m c 0
  | 12 => xrPay m c 1
  | 13 => xrPay m c 2
  | 14 => xrPay m c 3
  | 15 => have_ m c c 0 half1
  | 16 => have_ m c c 1 half1
  | 17 => have_ m c c 2 half1
  | 18 => have_ m c c 3 half1
  | 19 => have_ m c (pY c) 0 fullShare
  | 20 => have_ m c (pY c) 1 fullShare
  | 21 => have_ m c (pY c) 2 fullShare
  | 22 => have_ m c (pY c) 3 fullShare
  | 23 => have_ m c c 0 half2
  | 24 => have_ m c c 1 half2
  | 25 => have_ m c c 2 half2
  | 26 => have_ m c c 3 half2
  | 27 => have_ m c (pZ c) 0 fullShare
  | 28 => have_ m c (pZ c) 1 fullShare
  | 29 => have_ m c (pZ c) 2 fullShare
  | 30 => have_ m c (pZ c) 3 fullShare
  | 31 => have_ m c (pZ c) 0 fullShare
  | 32 => have_ m c (pZ c) 1 fullShare
  | 33 => have_ m c (pD c) 0 fullShare
  | 34 => have_ m c (pD c) 1 fullShare
  | 35 => have_ m c (pY c) 2 fullShare
  | 36 => have_ m c (pY c) 3 fullShare
  | 37 => have_ m c (pD c) 2 fullShare
  | 38 => have_ m c (pD c) 3 fullShare
  | _ => iprop(emp)

/-- Every transfer cell of device `c` is in use. -/
def opened (c : Dev nD) : sProp 𝕄 := bigSep Finset.univ (fun j : Fin 37 => reached ER (cell c (osem j)) 0)

/-- The memory a device hands to its neighbour `d`, whose own quarter is `a`, the quarter it also passes on
    there being `b`. -/
def lend (c : Dev nD) : Fin 3 → sProp 𝕄
  | 0 => iprop(anyOf c (rcvM 0) ∗ anyOf c (rcvM 1) ∗ anyOf c (rcvM 2) ∗ anyOf c (rcvM 3))
  | 1 => iprop(anyOf c (outM (qt (pY c)) 0) ∗ anyOf c (outM (qt (pY c)) 1) ∗ anyOf c (outM (qt (pY c)) 2) ∗ anyOf c (outM (qt (pY c)) 3)
      ∗ anyOf c (outM (qt (pD c)) 0) ∗ anyOf c (outM (qt (pD c)) 1))
  | 2 => iprop(anyOf c (outM (qt (pZ c)) 0) ∗ anyOf c (outM (qt (pZ c)) 1) ∗ anyOf c (outM (qt (pZ c)) 2) ∗ anyOf c (outM (qt (pZ c)) 3)
      ∗ anyOf c (outM (qt (pD c)) 2) ∗ anyOf c (outM (qt (pD c)) 3))

/-- What the unit of neighbour `d` brings to device `c`'s barrier cell. -/
def barPay (c : Dev nD) (d : Fin 3) : sProp 𝕄 := iprop(lend (nb d c) d ∗ opened (nb d c))

instance anyOf_storable (c : Dev nD) {sp : Space} {sh : Shape} (M : Memref sig .tc sp sh .f32) :
    BI.Storable (upEmb : UEmb _ 𝕄) (anyOf (F := F) c M) := by
  unfold anyOf; infer_instance
instance have_storable (c e : Dev nD) (k : Fin 4) (q : PosShare TreeShare) :
    BI.Storable (upEmb : UEmb _ 𝕄) (have_ m c e k q) := by
  unfold have_; infer_instance
instance opened_storable (c : Dev nD) : BI.Storable (upEmb : UEmb _ 𝕄) (opened (F := F) c) := by
  unfold opened; infer_instance
instance opened_persistent (c : Dev nD) : BI.Persistent (opened (F := F) c) := by
  unfold opened; infer_instance
instance pay_storable (c : Dev nD) (n : ℕ) : BI.Storable (upEmb : UEmb _ 𝕄) (pay m c n) := by
  unfold pay locPay stgPay xsPay xrPay; split <;> infer_instance
instance lend_storable (c : Dev nD) (d : Fin 3) : BI.Storable (upEmb : UEmb _ 𝕄) (lend (F := F) c d) := by
  unfold lend; split <;> infer_instance
instance barPay_storable (c : Dev nD) (d : Fin 3) : BI.Storable (upEmb : UEmb _ 𝕄) (barPay (F := F) c d) := by
  unfold barPay; infer_instance

/-! ## The schedule -/

/-- The duties of a cell: a unit from each neighbour on the barrier, one transfer on a transfer cell. -/
def dutiesOf : SemLoc sig → Finset (Fin 3)
  | .reg _ => Finset.univ
  | .dma s => if 2 ≤ s.val then {0} else ∅

def talkRd : Rounds.Schedule (GSem nD τ sig) (Fin 3) 𝕄 where
  duties g r := if r = 0 ∧ g.1.2 = .tc then dutiesOf g.2 else ∅
  unitless _ := False
  amount g _ _ := amt g.2
  payload g _ d := match g.2 with
    | .reg _ => barPay g.1.1 d
    | .dma s => pay m g.1.1 s.val
  amount_pos g _ _ _ := amt_pos g.2

instance talkRd_payload_storable (g : GSem nD τ sig) (r : ℕ) (d : Fin 3) :
    BI.Storable (upEmb : UEmb _ 𝕄) ((talkRd (F := F) m).payload g r d) := by
  show BI.Storable upEmb (match g.2 with
    | .reg _ => barPay g.1.1 d
    | .dma s => pay m g.1.1 s.val)
  split <;> infer_instance

theorem duties_zero (c : Dev nD) (s : SemLoc sig) : (talkRd (F := F) m).duties (cell c s) 0 = dutiesOf s := by
  dsimp only [talkRd]; exact if_pos ⟨rfl, rfl⟩
theorem duties_later (g : GSem nD τ sig) : ∀ r, 1 ≤ r → (talkRd (F := F) m).duties g r = ∅ :=
  fun r hr => by dsimp only [talkRd]; rw [if_neg (fun h => by omega)]
theorem duties_dma (c : Dev nD) (s : DmaSem sig) (h : 2 ≤ s.val) : (talkRd (F := F) m).duties (cell c (.dma s)) 0 = {0} :=
  (duties_zero m c _).trans (if_pos h)
theorem mem_dma (c : Dev nD) (s : DmaSem sig) (h : 2 ≤ s.val) : (0 : Fin 3) ∈ (talkRd (F := F) m).duties (cell c (.dma s)) 0 := by
  rw [duties_dma m c s h]; exact Finset.mem_singleton_self _
theorem mem_bar (c : Dev nD) (d : Fin 3) : d ∈ (talkRd (F := F) m).duties (cell c barL) 0 := by
  rw [duties_zero]; exact Finset.mem_univ _
theorem expect_dma (c : Dev nD) (s : DmaSem sig) (h : 2 ≤ s.val) : (talkRd (F := F) m).expect (cell c (.dma s)) 0 = N := by
  unfold Schedule.expect Schedule.amountOf; rw [duties_dma m c s h, Finset.sum_singleton]; rfl
theorem expect_bar (c : Dev nD) : (talkRd (F := F) m).expect (cell c barL) 0 = 3 := by
  unfold Schedule.expect Schedule.amountOf; rw [duties_zero]; rfl
theorem rest_dma (c : Dev nD) (s : DmaSem sig) (h : 2 ≤ s.val) :
    bigSep ((talkRd (F := F) m).duties (cell c (.dma s)) 0 \ ∅) (fun u => (talkRd (F := F) m).payload (cell c (.dma s)) 0 u) = pay m c s.val := by
  rw [Finset.sdiff_empty, duties_dma m c s h, bigSep_singleton]; rfl
theorem rest_bar (c : Dev nD) :
    bigSep ((talkRd (F := F) m).duties (cell c barL) 0 \ ∅) (fun u => (talkRd (F := F) m).payload (cell c barL) 0 u)
      = bigSep Finset.univ (fun d => barPay (F := F) c d) := by
  rw [Finset.sdiff_empty, duties_zero]; rfl

/-! ## What a device owes, in the order it pays -/

/-- The payments of a device to its neighbours' cells, in program order. -/
def sched : List (Fin 3 × SemLoc sig) :=
  [(0, barL), (1, barL), (2, barL),
   (0, .dma 11), (0, .dma 12), (0, .dma 13), (0, .dma 14),
   (1, .dma 19), (2, .dma 27), (1, .dma 20), (2, .dma 28), (1, .dma 21), (2, .dma 29), (1, .dma 22), (2, .dma 30),
   (1, .dma 33), (1, .dma 34), (2, .dma 37), (2, .dma 38)]

/-- One payment. -/
def due1 (c : Dev nD) (p : Fin 3 × SemLoc sig) : CellTallies nD τ sig Unit := tallyAt (cell (nb p.1 c) p.2) () (amt p.2)
/-- A list of payments still owed. -/
def dueL (c : Dev nD) (l : List (Fin 3 × SemLoc sig)) : CellTallies nD τ sig Unit := (l.map (due1 c)).sum
/-- What is owed after the first `i` payments. -/
def due (c : Dev nD) (i : ℕ) : CellTallies nD τ sig Unit := dueL c (sched.drop i)

theorem dueL_cons (c : Dev nD) (p : Fin 3 × SemLoc sig) (l : List (Fin 3 × SemLoc sig)) : dueL c (p :: l) = dueL c l + due1 c p := by
  unfold dueL; rw [List.map_cons, List.sum_cons, add_comm]
theorem due_step (c : Dev nD) (i : ℕ) (p : Fin 3 × SemLoc sig) (h : sched.drop i = p :: sched.drop (i + 1)) :
    due c i = due c (i + 1) + due1 c p := by
  unfold due; rw [h, dueL_cons]
theorem due_done (c : Dev nD) : due c 19 = 0 := rfl

/-- The cells that carry levels: the TensorCores'. -/
def L (g : GSem nD τ sig) : Finset Unit := if g.1.2 = .tc then {()} else ∅
def lv (g : GSem nD τ sig) (_ : Unit) : ℕ := lvl g.2
theorem L_of_ne (g : GSem nD τ sig) (h : g.1.2 ≠ .tc) : L g = ∅ := if_neg h
theorem L_tc (c : Dev nD) (s : SemLoc sig) : L (cell c s) = {()} := if_pos rfl

theorem dueL_pos (c : Dev nD) (l : List (Fin 3 × SemLoc sig)) (g : GSem nD τ sig) (u : Unit) (h : 0 < dueL c l g u) :
    ∃ p ∈ l, g = cell (nb p.1 c) p.2 := by
  induction l with
  | nil => exact absurd h (Nat.lt_irrefl 0)
  | cons p l ih =>
    rw [dueL_cons] at h
    have h' : 0 < dueL c l g u + due1 c p g u := h
    by_cases h1 : 0 < dueL c l g u
    · obtain ⟨p', hp, e⟩ := ih h1
      exact ⟨p', List.mem_cons_of_mem _ hp, e⟩
    · have h2 : 0 < due1 c p g u := by omega
      unfold due1 at h2
      rw [tallyAt_apply] at h2
      by_cases e : g = cell (nb p.1 c) p.2 ∧ u = ()
      · exact ⟨p, List.mem_cons_self, e.1⟩
      · rw [if_neg e] at h2; exact absurd h2 (Nat.lt_irrefl 0)

theorem mayWait_dueL (c : Dev nD) (s : SemLoc sig) (l : List (Fin 3 × SemLoc sig)) (h : ∀ p ∈ l, lvl s < lvl p.2) :
    (levAts L lv : sProp 𝕄) ⊢ MayWait (c : Thread nD τ) s () (dueL c l) :=
  MayOwe.of_cut (L := L) (lev := lv) (lvl s) (fun p hp => by rw [Finset.mem_singleton.mp hp, L_tc]; exact Finset.mem_singleton_self _)
    (fun g u hg => by
      obtain ⟨p, -, e⟩ := dueL_pos c l g u hg
      rw [e, L_tc]; exact Finset.mem_singleton_self _)
    (fun p hp => by rw [Finset.mem_singleton.mp hp]; exact Nat.le_refl _)
    (fun g u hg => by
      obtain ⟨p, hp, e⟩ := dueL_pos c l g u hg
      rw [e]; exact h p hp)

/-! ## The standing facts -/

/-- The barrier cells, and the transfer cells. -/
def barEmb : Dev nD ↪ GSem nD τ sig := ⟨fun c => cell c barL, fun a b h => by
  have := congrArg (fun g : GSem nD τ sig => g.1.1) h; exact this⟩
def scEmb : Dev nD × Fin 37 ↪ GSem nD τ sig := ⟨fun p => cell p.1 (osem p.2), fun a b h => by
  have h1 : a.1 = b.1 := congrArg (fun g : GSem nD τ sig => g.1.1) h
  have h2 : osem a.2 = osem b.2 := congrArg (fun g : GSem nD τ sig => g.2) h
  exact Prod.ext h1 (osem_inj h2)⟩
def barCells : Finset (GSem nD τ sig) := Finset.univ.map barEmb
def scCells : Finset (GSem nD τ sig) := Finset.univ.map scEmb
theorem mem_barCells (c : Dev nD) : cell c barL ∈ barCells := Finset.mem_map.mpr ⟨c, Finset.mem_univ _, rfl⟩
theorem mem_scCells (c : Dev nD) (j : Fin 37) : cell c (osem j) ∈ scCells := Finset.mem_map.mpr ⟨(c, j), Finset.mem_univ _, rfl⟩

/-- The invariant of every cell, and that the barrier cells are in use. -/
def records (K : GSem nD τ sig → ℕ) : sProp 𝕄 :=
  iprop(bigSep (barCells ∪ scCells) (fun g => cellInv ER (talkRd m) (K g) g) ∗ bigSep barCells (fun g => reached ER g 0))
instance records_persistent (K : GSem nD τ sig → ℕ) : BI.Persistent (records m K) := by unfold records; infer_instance

theorem records_inv (K : GSem nD τ sig → ℕ) (g : GSem nD τ sig) (h : g ∈ barCells ∪ scCells) :
    records m K ⊢ cellInv ER (talkRd m) (K g) g := by
  refine BIBase.Entails.trans (Q := bigSep (barCells ∪ scCells) (fun g => cellInv ER (talkRd m) (K g) g)) ?_ (bigSep_elim h)
  unfold records; iintro ⟨H, -⟩; iexact H
theorem inv_bar (K : GSem nD τ sig → ℕ) (c : Dev nD) : records m K ⊢ cellInv ER (talkRd m) (K (cell c barL)) (cell c barL) :=
  records_inv m K _ (Finset.mem_union_left scCells (mem_barCells c))
theorem inv_sc (K : GSem nD τ sig → ℕ) (c : Dev nD) (j : Fin 37) :
    records m K ⊢ cellInv ER (talkRd m) (K (cell c (osem j))) (cell c (osem j)) :=
  records_inv m K _ (Finset.mem_union_right barCells (mem_scCells c j))
theorem inv_dma (K : GSem nD τ sig → ℕ) (c : Dev nD) (s : DmaSem sig) (h : 2 ≤ s.val) :
    records m K ⊢ cellInv ER (talkRd m) (K (cell c (.dma s))) (cell c (.dma s)) := by
  obtain ⟨j, e⟩ := osem_of s h
  rw [e]; exact inv_sc m K c j
theorem reached_bar (K : GSem nD τ sig → ℕ) (c : Dev nD) : records m K ⊢ reached ER (cell c barL) 0 := by
  refine BIBase.Entails.trans (Q := bigSep barCells (fun g => reached ER g 0)) ?_ (bigSep_elim (mem_barCells c))
  unfold records; iintro ⟨-, H⟩; iexact H
theorem reached_dma (c : Dev nD) (s : DmaSem sig) (h : 2 ≤ s.val) : (opened (F := F) c) ⊢ reached ER (cell c (.dma s)) 0 := by
  obtain ⟨j, e⟩ := osem_of s h
  rw [e]; unfold opened
  exact bigSep_elim (Φ := fun j : Fin 37 => (reached ER (cell c (osem j)) 0 : sProp 𝕄)) (Finset.mem_univ _)

theorem close (κ : ℕ) (g : GSem nD τ sig) :
    iprop(cellInv ER (talkRd m) κ g ∗ atPos ER g (0 + 1) ∅ 0) ⊢ (|={Set.univ}=> semVal g 0 : sProp 𝕄) :=
  Rounds.cell_close ER (talkRd m) (Set.mem_univ κ) id (duties_later m g)

end Cert.Talk

end
-- ==== Proof.Steps.lean ====
/-
  One lemma for each kind of step the kernel takes, stated over pieces of memory owned at named contents: a
  local copy, a transfer to a neighbour, a signal, a wait, a load, a store. Each is stated for any memref equal to the
  named piece, so that the printed addresses need only be shown equal to it.
-/
module

public import proofs.«01_k».proof.Proof.Sched
public import Idealize.ShloMosaic.Lib.Ring

@[expose] public section

noncomputable section

namespace Cert.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- The right to pay a duty. -/
abbrev tok (c : Dev nD) (s : SemLoc sig) (d : Fin 3) : sProp 𝕄 := dutyTok ER (cell c s) 0 d
/-- The owner's position on a cell before (`0`) or after (`1`) its round. -/
abbrev pos (c : Dev nD) (s : SemLoc sig) (n : ℕ) : sProp 𝕄 := atPos ER (cell c s) n ∅ 0
/-- The credit for one transfer. -/
abbrev crd (c : Dev nD) (s : DmaSem sig) : sProp 𝕄 := cred (tallyAt (cell c (.dma s)) () N)
/-- What is still owed after `i` payments. -/
def OW (c : Dev nD) (i : ℕ) : sProp 𝕄 := iprop(∃ W, owes (c : Thread nD τ) (due c i) W)
/-- The facts that stand throughout a device's run. -/
def base (K : GSem nD τ sig → ℕ) (c : Dev nD) : sProp 𝕄 := iprop(records m K ∗ opened c ∗ levAts L lv)
instance base_persistent (K : GSem nD τ sig → ℕ) (c : Dev nD) : BI.Persistent (base m K c) := by unfold base; infer_instance
/-- The neighbours' transfer cells are in use. -/
def near (c : Dev nD) : sProp 𝕄 := iprop(opened (pX c) ∗ opened (pY c) ∗ opened (pZ c))
instance near_persistent (c : Dev nD) : BI.Persistent (near (F := F) c) := by unfold near; infer_instance
theorem near_nb (c : Dev nD) (d : Fin 3) : near (F := F) c ⊢ opened (nb d c) := by
  unfold near
  match d with
  | 0 => iintro ⟨H, -, -⟩; iexact H
  | 1 => iintro ⟨-, H, -⟩; iexact H
  | 2 => iintro ⟨-, -, H⟩; iexact H

/-- A run of a program fragment on device `c`. -/
abbrev run {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-- A piece overwritten whole holds what was written. -/
theorem owns_landed (c : Dev nD) {sp : Space} {sh : Shape} (M : Memref sig .tc sp sh .f32) (g : M.view.ty.Contents (Elt F))
    (X Y : sh.Idx → Elt F .f32) (h : Y = X) :
    (M.view.loc (c : Thread nD τ) ↦[M.view.set]{fullShare} (M.view.write (Elt F) g Y Finset.univ) : sProp 𝕄)
      ⊢ owns (c : Thread nD τ) M fullShare X := by
  have e : M.view.read (Elt F) (M.view.write (Elt F) g Y Finset.univ) = X := (View.read_write_univ g Y).trans h
  rw [← e]; exact owns_intro (c : Thread nD τ) M fullShare _
/-- A piece whose contents read as `X` is owned at `X`. -/
theorem owns_of_read (c : Dev nD) {sp : Space} {sh : Shape} (M : Memref sig .tc sp sh .f32) (q : PosShare TreeShare) (f : M.view.ty.Contents (Elt F))
    (X : sh.Idx → Elt F .f32) (h : M.view.read (Elt F) f = X) :
    (M.view.loc (c : Thread nD τ) ↦[M.view.set]{q} f : sProp 𝕄) ⊢ owns (c : Thread nD τ) M q X := by
  rw [← h]; exact owns_intro (c : Thread nD τ) M q f

section Steps

variable (K : GSem nD τ sig → ℕ) (c : Dev nD) {α : Type} {Q : α → sProp (MT nD τ sig Unit (Elt F) ℕ UU ℕ)} {sp sp' : Space}

theorem step_copy (s : DmaSem sig) (h2 : 2 ≤ s.val) {src src' : Memref sig .tc sp S64x1024 .f32} {dst dst' : Memref sig .tc sp' S64x1024 .f32}
    (hs : src = src') (hd : dst = dst') {sem : SemLoc sig} (hsem : sem = .dma s)
    {hsrc : src.view.WordExact} {hdst : dst.view.WordExact} {hty : DmaTarget.Typed (nD := nD) (τ := τ) (p := Proc.tc) sp sem (.here dst)}
    {k : PUnit → Prog (TpuEff nD τ sig (Elt F) Λ₀ .tc) α} (X : S64x1024.Idx → Elt F .f32) (hN : dst'.view.dmaCredit = N)
    (hpay : iprop(owns (c : Thread nD τ) dst' fullShare X ∗ owns (c : Thread nD τ) src' fullShare X) ⊢ pay m c s.val) :
    iprop(base m K c ∗ owns (c : Thread nD τ) src' fullShare X ∗ anyOf c dst' ∗ tok c (.dma s) 0)
      ⊢ iprop((crd c s -∗ run c (k ⟨⟩) Q) -∗ run c (.op (.enqueueDma src (.here dst) sem hsrc hdst hty) k) Q) := by
  subst hs hd hsem
  unfold base anyOf owns
  iintro ⟨⟨#Hrec, #Hop, -⟩, ⟨%f, %hf, Hs⟩, ⟨%Y, %g, -, Hd⟩, Ht⟩ Hk
  iapply (Rounds.wp_copy_pointsTo 𝒱₀ ER (talkRd m) (c : Thread nD τ) none (src := src) (dst := dst) (sem := .dma s) (q := fullShare) (fs := f) (fd := g)
    (r := 0) (d := 0) (κ := K (cell c (.dma s))) (mem_dma m c s h2) () N hN rfl ?_) $$ [Hs Hd Ht]
  · refine BIBase.Entails.trans ?_ hpay
    exact BIClass.sep_mono (owns_landed c dst g X _ hf) (owns_of_read c src fullShare f X hf)
  · isplitr; · iapply (inv_dma m K c s h2); iexact Hrec
    isplitl [Hs]; · iexact Hs
    isplitl [Hd]; · iexact Hd
    isplitl [Ht]; · iexact Ht
    iapply (reached_dma c s h2); iexact Hop
  iexact Hk

theorem step_send (d : Fin 3) (ss sr : DmaSem sig) (hss : 2 ≤ ss.val) (hsr : 2 ≤ sr.val) (i : ℕ)
    (hi : sched.drop i = (d, .dma sr) :: sched.drop (i + 1))
    {c' : Dev nD} (hc' : c' = nb d c)
    {src src' : Memref sig .tc sp S64x1024 .f32} {dst dst' : Memref sig .tc sp' S64x1024 .f32}
    (hs : src = src') (hd : dst = dst') {semS semR : SemLoc sig} (hsemS : semS = .dma ss) (hsemR : semR = .dma sr)
    {hsc : dst.view.ref.isScScratch = false}
    {hsrc : src.view.WordExact} {hdst : dst.view.WordExact} {hty : DmaTarget.Typed sp semR (.remote (Dev.tc c' : Thread nD τ) dst semS hsc)}
    {k : PUnit → Prog (TpuEff nD τ sig (Elt F) Λ₀ .tc) α} (q : PosShare TreeShare) (X : S64x1024.Idx → Elt F .f32) (hN : dst'.view.dmaCredit = N)
    (hpay₁ : owns (c : Thread nD τ) src' q X ⊢ pay m c ss.val)
    (hpay₂ : owns (nb d c : Thread nD τ) dst' fullShare X ⊢ pay m (nb d c) sr.val) :
    iprop(base m K c ∗ near c ∗ owns (c : Thread nD τ) src' q X ∗ anyOf (nb d c) dst' ∗ OW c i ∗ tok c (.dma ss) 0 ∗ tok (nb d c) (.dma sr) 0)
      ⊢ iprop(((crd c ss ∗ OW c (i + 1)) -∗ run c (k ⟨⟩) Q)
        -∗ run c (.op (.enqueueDma src (.remote (Dev.tc c') dst semS hsc) semR hsrc hdst hty) k) Q) := by
  subst hc' hs hd hsemS hsemR
  unfold base anyOf owns OW
  iintro ⟨⟨#Hrec, #Hop, -⟩, #Hnear, ⟨%f, %hf, Hs⟩, ⟨%Y, %g, -, Hd⟩, ⟨%W, HO⟩, Ht, Ht'⟩ Hk
  iapply (Rounds.wp_send_pointsTo 𝒱₀ ER (talkRd m) (c : Thread nD τ) none (c' := (nb d c : Thread nD τ)) (src := src) (dst := dst)
    (sS := .dma ss) (sem := .dma sr) (q := q) (fs := f) (κ₁ := K (cell c (.dma ss))) (κ₂ := K (cell (nb d c) (.dma sr)))
    (r₁ := 0) (r₂ := 0) (d₁ := 0) (d₂ := 0) (fd := g) (mem_dma m c ss hss) (mem_dma m (nb d c) sr hsr)
    () () N hN rfl rfl (due c (i + 1)) (due_step c i _ hi) (W := W) ?_ ?_) $$ [Hs Hd HO Ht Ht']
  · exact (owns_of_read c src q f X hf).trans hpay₁
  · exact (owns_landed (nb d c) dst g X _ hf).trans hpay₂
  · isplitr; · iapply (inv_dma m K c ss hss); iexact Hrec
    isplitr; · iapply (inv_dma m K (nb d c) sr hsr); iexact Hrec
    isplitl [Hs]; · iexact Hs
    isplitl [Hd]; · iexact Hd
    isplitl [HO]; · iexact HO
    isplitl [Ht]; · iexact Ht
    isplitr; · iapply (reached_dma c ss hss); iexact Hop
    isplitl [Ht']; · iexact Ht'
    iapply (reached_dma (nb d c) sr hsr); iapply (near_nb c d); iexact Hnear
  iintro ⟨Hc, HO⟩
  iapply Hk
  isplitl [Hc]; · iexact Hc
  iexists W; iexact HO

theorem step_wait (s : DmaSem sig) (h2 : 2 ≤ s.val) (i : ℕ) (hl : ∀ p ∈ sched.drop i, lvl (.dma s) < lvl p.2)
    {src : Memref sig .tc sp S64x1024 .f32} {dst : Memref sig .tc sp' S64x1024 .f32} {sem : DmaSem sig} (hsem : sem = s)
    {hsrc : src.view.WordExact} {hdst : dst.view.WordExact}
    {k : PUnit → Prog (TpuEff nD τ sig (Elt F) Λ₀ .tc) α} (hN : dst.view.dmaCredit = N) :
    iprop(base m K c ∗ crd c s ∗ OW c i ∗ pos c (.dma s) 0)
      ⊢ iprop(((OW c i ∗ pos c (.dma s) 1 ∗ pay m c s.val) -∗ run c (k ⟨⟩) Q)
        -∗ run c (.op (.waitDma2 sem src dst hsrc hdst) k) Q) := by
  subst hsem
  unfold base OW
  iintro ⟨⟨#Hrec, #Hop, #Hlev⟩, Hc, ⟨%W, HO⟩, Hp⟩ Hk
  iapply (Rounds.wp_wait_rest_token 𝒱₀ ER (talkRd m) (c : Thread nD τ) none (κ := K (cell c (.dma sem)))
      (wpE_waitDma2_eq 𝒱₀ (c : Thread nD τ) none Set.univ) (Set.mem_univ _) () (O := due c i) (W := W) (R := 0) (m := 0) (T := ∅)
      ((Nat.zero_add _).trans (hN.trans (expect_dma m c sem h2).symm))) $$ [Hc HO Hp]
  · isplitr; · iapply (inv_dma m K c sem h2); iexact Hrec
    isplitl [Hc]; · rw [hN]; iexact Hc
    isplitl [HO]; · iexact HO
    isplitr; · iapply (mayWait_dueL c (.dma sem) (sched.drop i) hl); iexact Hlev
    iexact Hp
  iintro ⟨HO, Hp, -, Hpay⟩
  iapply Hk
  isplitl [HO]; · iexists _; iexact HO
  isplitl [Hp]; · iexact Hp
  iapply (BIBase.Entails.of_eq (rest_dma m c sem h2)); iexact Hpay

theorem step_signal (d : Fin 3) (i : ℕ) (hi : sched.drop i = (d, barL) :: sched.drop (i + 1)) {c' : Dev nD} (hc' : c' = nb d c)
    {sem : Sem sig} (hsem : sem = barrier0) {k : PUnit → Prog (TpuEff nD τ sig (Elt F) Λ₀ .tc) α} :
    iprop(base m K c ∗ lend c d ∗ OW c i ∗ tok (nb d c) barL d)
      ⊢ iprop((OW c (i + 1) -∗ run c (k ⟨⟩) Q)
        -∗ run c (.op (.semSignal (Dev.tc c') sem 1) k) Q) := by
  subst hc' hsem
  unfold base OW
  iintro ⟨⟨#Hrec, #Hop, -⟩, Hl, ⟨%W, HO⟩, Ht⟩ Hk
  iapply (Rounds.wp_signal 𝒱₀ ER (talkRd m) (c : Thread nD τ) none (dst := (nb d c : Thread nD τ)) (sem := barrier0) (r := 0) (d := d) (κ := K (cell (nb d c) barL))
      (mem_bar m (nb d c) d) rfl () (due c (i + 1)) (due_step c i _ hi)) $$ [HO Ht Hl]
  · isplitr; · iapply (inv_bar m K (nb d c)); iexact Hrec
    isplitl [HO]; · iexact HO
    isplitl [Ht]; · iexact Ht
    isplitl [Hl]
    · iapply (show iprop(lend c d ∗ opened c) ⊢ (talkRd m).payload (cell (nb d c) barL) 0 d from
        BIBase.Entails.of_eq (by show _ = barPay (nb d c) d; unfold barPay; rw [nb_nb]))
      isplitl [Hl]; · iexact Hl
      iexact Hop
    · iapply (reached_bar m K (nb d c)); iexact Hrec
  iintro HO
  iapply Hk
  iexists W; iexact HO

theorem step_barrier {sem : Sem sig} (hsem : sem = barrier0) {k : PUnit → Prog (TpuEff nD τ sig (Elt F) Λ₀ .tc) α} :
    iprop(base m K c ∗ cred (tallyAt (cell c barL) () 3) ∗ OW c 3 ∗ pos c barL 0)
      ⊢ iprop(((OW c 3 ∗ pos c barL 1 ∗ near c ∗ lend (pX c) 0 ∗ lend (pY c) 1 ∗ lend (pZ c) 2) -∗ run c (k ⟨⟩) Q)
        -∗ run c (.op (.semWait sem 3) k) Q) := by
  subst hsem
  unfold base OW
  iintro ⟨⟨#Hrec, #Hop, #Hlev⟩, Hc, ⟨%W, HO⟩, Hp⟩ Hk
  iapply (Rounds.wp_wait_rest_token 𝒱₀ ER (talkRd m) (c : Thread nD τ) none (κ := K (cell c barL))
      (wpE_semWait_eq 𝒱₀ (c : Thread nD τ) none Set.univ) (Set.mem_univ _) () (O := due c 3) (W := W) (R := 0) (m := 0) (T := ∅)
      ((Nat.zero_add 3).trans (expect_bar m c).symm)) $$ [Hc HO Hp]
  · isplitr; · iapply (inv_bar m K c); iexact Hrec
    isplitl [Hc]; · iexact Hc
    isplitl [HO]; · iexact HO
    isplitr; · iapply (mayWait_dueL c barL (sched.drop 3) (by decide +kernel)); iexact Hlev
    iexact Hp
  iintro ⟨HO, Hp, -, Hpay⟩
  ihave H := (BIBase.Entails.of_eq ((rest_bar m c).trans (Ring.bigSep_fin3 _))) $$ Hpay
  unfold barPay
  icases H with ⟨⟨H0, #O0⟩, ⟨H1, #O1⟩, ⟨H2, #O2⟩⟩
  iapply Hk
  isplitl [HO]; · iexists _; iexact HO
  isplitl [Hp]; · iexact Hp
  isplitr
  · unfold near
    isplitr; · iexact O0
    isplitr; · iexact O1
    iexact O2
  isplitl [H0]; · iexact H0
  isplitl [H1]; · iexact H1
  iexact H2

end Steps

/-- The value the gamma row's stage and the first outgoing chunk's buffer read through the rectangle that covers them. -/
theorem emb_full1 (h : ∀ a, (![0, 0] : Fin 2 → ℕ) a + S1x1024.size a ≤ S1x1024.size a) (i : S1x1024.Idx) :
    (Rect.unit (s := S1x1024) ![0, 0] S1x1024.size h).emb i = i := by
  funext a; refine Fin.ext ?_
  match a with
  | 0 => show 0 + 1 * (i 0).val = (i 0).val; omega
  | 1 => show 0 + 1 * (i 1).val = (i 1).val; omega
theorem emb_full64 (h : ∀ a, (![0, 0] : Fin 2 → ℕ) a + S64x1024.size a ≤ S64x1024.size a) (i : S64x1024.Idx) :
    (Rect.unit (s := S64x1024) ![0, 0] S64x1024.size h).emb i = i := by
  funext a; refine Fin.ext ?_
  match a with
  | 0 => show 0 + 1 * (i 0).val = (i 0).val; omega
  | 1 => show 0 + 1 * (i 1).val = (i 1).val; omega

/-- The buffer of the first outgoing chunk, as the kernel addresses it when sending. -/
abbrev sndS : Memref sig .tc .vmem S64x1024 .f32 :=
  sndM.slice (Rect.unit (s := S64x1024) ![0, 0] S64x1024.size inb_S64x1024_S64x1024_0_0) (fun _ => rfl)
theorem owns_sndS (c : Dev nD) (q : PosShare TreeShare) (X : S64x1024.Idx → Elt F .f32) :
    (owns (c : Thread nD τ) sndS q X : sProp 𝕄) = owns (c : Thread nD τ) sndM q X := by
  have hr : ∀ f, sndS.view.read (Elt F) f = sndM.view.read (Elt F) f := fun f => funext fun i =>
    congrArg (sndM.view.read (Elt F) f) (emb_full64 inb_S64x1024_S64x1024_0_0 i)
  have hset : sndS.view.set = sndM.view.set := by
    show (sndM.view.slice _).set = _
    rw [View.set_slice]
    ext j; constructor
    · intro h; obtain ⟨x, -, rfl⟩ := Finset.mem_map.mp h; exact Finset.mem_map_of_mem _ (Finset.mem_univ _)
    · intro h; obtain ⟨x, -, rfl⟩ := Finset.mem_map.mp h
      refine Finset.mem_map_of_mem _ ?_
      rw [← Rect.map_emb_univ]
      exact Finset.mem_map.mpr ⟨x, Finset.mem_univ _, emb_full64 _ x⟩
  unfold owns
  simp only [hr]
  rw [hset]

theorem any_open (c : Dev nD) {sp : Space} {sh : Shape} (M : Memref sig .tc sp sh .f32) :
    (anyOf c M : sProp 𝕄) = iprop(∃ X : sh.Idx → Elt F .f32, owns (c : Thread nD τ) M fullShare X) := rfl
/-- A piece owned is two halves of it owned, -/
theorem owns_halve (c : Dev nD) {sp : Space} (M : Memref sig .tc sp S64x1024 .f32) (X : S64x1024.Idx → Elt F .f32) :
    (owns (c : Thread nD τ) M fullShare X : sProp 𝕄) ⊢ iprop(owns (c : Thread nD τ) M half1 X ∗ owns (c : Thread nD τ) M half2 X) := by
  unfold owns
  iintro ⟨%f, %hf, H⟩
  ihave H := (pointsTo_share (PosShare.mem_left_op_right fullShare)).1 $$ H
  icases H with ⟨H1, H2⟩
  isplitl [H1]
  · iexists f; isplitr; · ipureintro; exact hf
    iexact H1
  · iexists f; isplitr; · ipureintro; exact hf
    iexact H2
/-- and the two halves make the piece. -/
theorem owns_unhalve (c : Dev nD) {sp : Space} (M : Memref sig .tc sp S64x1024 .f32) (X : S64x1024.Idx → Elt F .f32) :
    iprop(owns (c : Thread nD τ) M half1 X ∗ owns (c : Thread nD τ) M half2 X) ⊢ (owns (c : Thread nD τ) M fullShare X : sProp 𝕄) := by
  unfold owns
  iintro ⟨⟨%f, %hf, H1⟩, ⟨%g, %hg, H2⟩⟩
  ihave H2 := (BIBase.Entails.of_eq (pointsTo_congr (g := f) (fun i hi => by
    obtain ⟨x, -, rfl⟩ := Finset.mem_map.mp hi
    have := congrFun (hg.trans hf.symm) x
    exact (cast_inj _).mp this))) $$ H2
  iexists f
  isplitr; · ipureintro; exact hf
  iapply (pointsTo_share (PosShare.mem_left_op_right fullShare)).2
  isplitl [H1]; · iexact H1
  iexact H2

section Steps2

variable (K : GSem nD τ sig → ℕ) (c : Dev nD) {α : Type} {Q : α → sProp (MT nD τ sig Unit (Elt F) ℕ UU ℕ)} {sp sp' : Space}

/-- A wait, at the payload's name. -/
theorem step_waitR (s : DmaSem sig) (h2 : 2 ≤ s.val) (i : ℕ) (hl : ∀ p ∈ sched.drop i, lvl (.dma s) < lvl p.2)
    (R : sProp (MT nD τ sig Unit (Elt F) ℕ UU ℕ)) (hR : pay m c s.val = R)
    {src : Memref sig .tc sp S64x1024 .f32} {dst : Memref sig .tc sp' S64x1024 .f32} {sem : DmaSem sig} (hsem : sem = s)
    {hsrc : src.view.WordExact} {hdst : dst.view.WordExact}
    {k : PUnit → Prog (TpuEff nD τ sig (Elt F) Λ₀ .tc) α} (hN : dst.view.dmaCredit = N) :
    iprop(base m K c ∗ crd c s ∗ OW c i ∗ pos c (.dma s) 0)
      ⊢ iprop(((OW c i ∗ pos c (.dma s) 1 ∗ R) -∗ run c (k ⟨⟩) Q)
        -∗ run c (.op (.waitDma2 sem src dst hsrc hdst) k) Q) := by
  subst hR; exact step_wait m K c s h2 i hl hsem hN

theorem step_load {cs : CoreSpace} {sh : Shape} {M : Memref sig .tc cs sh .f32} {r : Rect sh} {hr : ∀ a, r.stride a = 1} {hl : M.view.LoadsAt r}
    {M' : Memref sig .tc cs r.shape .f32} (h : M.slice r hr = M') (q : PosShare TreeShare) (X : r.shape.Idx → Elt F .f32)
    {k : (r.shape.Idx → Elt F .f32) → Prog (TpuEff nD τ sig (Elt F) Λ₀ .tc) α} :
    (owns (c : Thread nD τ) M' q X : sProp 𝕄)
      ⊢ iprop((owns (c : Thread nD τ) M' q X -∗ run c (k X) Q) -∗ run c (.op (.load M r hl) k) Q) := by
  subst h
  unfold owns
  iintro ⟨%f, %hf, H⟩ Hk
  iapply (wp_load_rect 𝒱₀ (c : Thread nD τ) none Set.univ (m := M) (r := r) (S := (M.access r).set) (q := q) (f := f) (Finset.Subset.refl _)) $$ H
  iintro H
  rw [show (M.access r).read (Elt F) f = X from hf]
  iapply Hk
  iexists f
  isplitr; · ipureintro; exact hf
  iexact H

/-- The whole scale row, loaded through the rectangle that covers it. -/
theorem step_loadG {hl : (Memref.whole cc0_stg0_0).view.LoadsAt (Rect.unit (s := S1x1024) ![0, 0] S1x1024.size inb_S1x1024_S1x1024_0_0)}
    (q : PosShare TreeShare) (X : S1x1024.Idx → Elt F .f32)
    {k : (S1x1024.Idx → Elt F .f32) → Prog (TpuEff nD τ sig (Elt F) Λ₀ .tc) α} :
    (owns (c : Thread nD τ) (Memref.whole cc0_stg0_0) q X : sProp 𝕄)
      ⊢ iprop((owns (c : Thread nD τ) (Memref.whole cc0_stg0_0) q X -∗ run c (k X) Q)
        -∗ run c (.op (.load (Memref.whole cc0_stg0_0) (Rect.unit (s := S1x1024) ![0, 0] S1x1024.size inb_S1x1024_S1x1024_0_0) hl) k) Q) := by
  unfold owns
  iintro ⟨%f, %hf, H⟩ Hk
  iapply (wp_load_rect 𝒱₀ (c : Thread nD τ) none Set.univ (m := Memref.whole cc0_stg0_0)
    (r := Rect.unit (s := S1x1024) ![0, 0] S1x1024.size inb_S1x1024_S1x1024_0_0) (q := q) (f := f) (View.set_slice_subset _ _)) $$ H
  iintro H
  rw [show ((Memref.whole cc0_stg0_0).access (Rect.unit (s := S1x1024) ![0, 0] S1x1024.size inb_S1x1024_S1x1024_0_0)).read (Elt F) f = X from
    (funext fun i => congrArg ((Memref.whole cc0_stg0_0).view.read (Elt F) f) (emb_full1 inb_S1x1024_S1x1024_0_0 i)).trans hf]
  iapply Hk
  iexists f
  isplitr; · ipureintro; exact hf
  iexact H

theorem step_store {cs : CoreSpace} {sh : Shape} {M : Memref sig .tc cs sh .f32} {r : Rect sh} {hr : ∀ a, r.stride a = 1} {w : r.shape.Idx → Elt F .f32}
    {hx : (M.access r).Stores Finset.univ} {hm : (Finset.univ : Finset r.shape.Idx) = Finset.univ ∨ ∀ a, r.stride a = 1}
    {M' : Memref sig .tc cs r.shape .f32} (h : M.slice r hr = M') (X w' : r.shape.Idx → Elt F .f32) (hw : w = w')
    {k : PUnit → Prog (TpuEff nD τ sig (Elt F) Λ₀ .tc) α} :
    (owns (c : Thread nD τ) M' fullShare X : sProp 𝕄)
      ⊢ iprop((owns (c : Thread nD τ) M' fullShare w' -∗ run c (k ⟨⟩) Q) -∗ run c (.op (.store M r w Finset.univ hx hm) k) Q) := by
  subst h hw
  iintro H Hk
  unfold owns
  icases H with ⟨%f, -, H⟩
  iapply (wp_store 𝒱₀ (c : Thread nD τ) none Set.univ (m := M) (r := r) (w := w) (Mk := Finset.univ) (S := (M.access r).set) (f := f)
    (Finset.Subset.refl _)) $$ H
  iintro H
  iapply Hk
  iexists _
  isplitr; swap; · iexact H
  ipureintro; exact View.read_write_univ (v := M.access r) f w

end Steps2

/-- What the neighbours lend, named from this side. -/
theorem lend_x (c : Dev nD) : (lend (pX c) 0 : sProp 𝕄)
    = iprop(anyOf (nb 0 c) (rcvM 0) ∗ anyOf (nb 0 c) (rcvM 1) ∗ anyOf (nb 0 c) (rcvM 2) ∗ anyOf (nb 0 c) (rcvM 3)) := rfl
theorem lend_y (c : Dev nD) : (lend (pY c) 1 : sProp 𝕄)
    = iprop(anyOf (nb 1 c) (outM (qt c) 0) ∗ anyOf (nb 1 c) (outM (qt c) 1) ∗ anyOf (nb 1 c) (outM (qt c) 2) ∗ anyOf (nb 1 c) (outM (qt c) 3)
      ∗ anyOf (nb 1 c) (outM (qt (pZ c)) 0) ∗ anyOf (nb 1 c) (outM (qt (pZ c)) 1)) := by
  show lend (pY c) 1 = _
  unfold lend
  rw [pY_pY, pD_pY]; rfl
theorem lend_z (c : Dev nD) : (lend (pZ c) 2 : sProp 𝕄)
    = iprop(anyOf (nb 2 c) (outM (qt c) 0) ∗ anyOf (nb 2 c) (outM (qt c) 1) ∗ anyOf (nb 2 c) (outM (qt c) 2) ∗ anyOf (nb 2 c) (outM (qt c) 3)
      ∗ anyOf (nb 2 c) (outM (qt (pY c)) 2) ∗ anyOf (nb 2 c) (outM (qt (pY c)) 3)) := by
  show lend (pZ c) 2 = _
  unfold lend
  rw [pZ_pZ, pD_pZ]; rfl
theorem pay_x (c : Dev nD) (k : Fin 4) : (owns (nb 0 c : Thread nD τ) (rcvM k) fullShare (snd m c k) : sProp 𝕄) = xrPay m (nb 0 c) k := by
  unfold xrPay
  rw [show pX (nb 0 c) = c from pX_pX c]
theorem pay_y (c : Dev nD) (k : Fin 4) : (owns (nb 1 c : Thread nD τ) (outM (qt c) k) fullShare (res m c k) : sProp 𝕄) = have_ m (nb 1 c) (pY (nb 1 c)) k fullShare := by
  unfold have_
  rw [show pY (nb 1 c) = c from pY_pY c]
theorem pay_z (c : Dev nD) (k : Fin 4) : (owns (nb 2 c : Thread nD τ) (outM (qt c) k) fullShare (res m c k) : sProp 𝕄) = have_ m (nb 2 c) (pZ (nb 2 c)) k fullShare := by
  unfold have_
  rw [show pZ (nb 2 c) = c from pZ_pZ c]
theorem pay_yf (c : Dev nD) (k : Fin 4) : (owns (nb 1 c : Thread nD τ) (outM (qt (pZ c)) k) fullShare (res m (pZ c) k) : sProp 𝕄) = have_ m (nb 1 c) (pD (nb 1 c)) k fullShare := by
  unfold have_
  rw [show pD (nb 1 c) = pZ c from pD_pY c]
theorem pay_zf (c : Dev nD) (k : Fin 4) : (owns (nb 2 c : Thread nD τ) (outM (qt (pY c)) k) fullShare (res m (pY c) k) : sProp 𝕄) = have_ m (nb 2 c) (pD (nb 2 c)) k fullShare := by
  unfold have_
  rw [show pD (nb 2 c) = pY c from pD_pZ c]
theorem off3_slice (c : Dev nD) (k : Fin 4) :
    (Memref.whole cc0_stg1_0).slice (Rect.unit (s := S1024x1024) (k0_off3 c (BitVec.ofNat 32 (64 * k.val))) S64x1024.size (k0_off3_inb c k)) (fun _ => rfl)
      = outM (qt c) k :=
  Memref.slice_unit_congr _ (off3_eq c k) _ _ _ (fun _ => rfl)
theorem whole_slice4 (k : Fin 4) (h) :
    (Memref.whole cc0_scratch1).slice (Rect.unit (s := S256x1024) ![64 * k.val, 0] S64x1024.size h) (fun _ => rfl) = locM k := rfl

end Cert.Talk

end
-- ==== Proof.Parts.lean ====
/-
  The parts the kernel is printed in, each run from what it needs to what it leaves.
-/
module

public import proofs.«01_k».proof.Proof.Steps
public import proofs.«01_k».proof.Proof.Gen.KernelIdeal.Skeleton

@[expose] public section

noncomputable section

namespace Cert.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

variable (K : GSem nD τ sig → ℕ) (c : Dev nD)
  (h0 : (Memref.whole main_arg0).IsWhole) (h1 : (Memref.whole cc0_stg0_0).IsWhole) (h2 : (Memref.whole cc0_stg1_0).IsWhole)
  (h3 : (Memref.whole cc0_scratch0).IsWhole) (h4 : (Memref.whole cc0_scratch1).IsWhole) (h5 : (Memref.whole cc0_scratch2).IsWhole)

set_option maxRecDepth 65536 in
theorem part2 (v2 v33 c1 : BitVec 32) {Q : _ → sProp (MT nD τ sig Unit (Elt F) ℕ UU ℕ)} :
    iprop(base m K c ∗ owns (c : Thread nD τ) (pOth c 0) fullShare (snd m c 0) ∗ anyOf c sndM ∗ tok c (.dma 6) 0 ∗ owns (c : Thread nD τ) (pOwn c 0) fullShare (own m c 0) ∗ anyOf c (locM 0) ∗ tok c (.dma 2) 0 ∗ owns (c : Thread nD τ) (pOwn c 1) fullShare (own m c 1) ∗ anyOf c (locM 1) ∗ tok c (.dma 3) 0)
      ⊢ iprop((∀ a, ∀ b, (crd c 6 ∗ crd c 2 ∗ crd c 3) -∗ Q ⟨a, b⟩) -∗ run c (k0_part2 (Memref.whole main_arg0) h0 (Memref.whole cc0_stg0_0) h1 (Memref.whole cc0_stg1_0) h2 (Memref.whole cc0_scratch0) h3 (Memref.whole cc0_scratch1) h4 (Memref.whole cc0_scratch2) h5 cc0_scratch3 cc0_scratch4 cc0_scratch5 cc0_scratch6 cc0_scratch7 cc0_scratch8 cc0_scratch9 cc0_scratch10 cc0_scratch11 cc0_scratch12 cc0_scratch13 cc0_scratch14 c v2 v33 c1) Q) := by
  rw [k0_part2_eq_skeleton]
  simp only [k0_part2_skel, semSignalWord, semWaitWord, Prog.lift, Prog.bind_op, Prog.bind_ret, Prog.pure_eq_ret, BitVec.reduceToNat]
  iintro ⟨#Hb, Hsx0, Hsda, HT6, How0, Hla0, HT2, How1, Hla1, HT3⟩ Hk
  iapply (step_copy m K c 6 (by decide) (src' := pOth c 0) (dst' := sndM) ?_ ?_ ?_ (snd m c 0) rfl (.of_eq rfl)) $$ [Hsx0 Hsda HT6]
  · rfl
  · rfl
  · rfl
  · isplitr; · iexact Hb
    isplitl [Hsx0]; · iexact Hsx0
    isplitl [Hsda]; · iexact Hsda
    iexact HT6
  iintro HC6
  iapply (step_copy m K c 2 (by decide) (src' := pOwn c 0) (dst' := locM 0) ?_ ?_ ?_ (own m c 0) rfl (.of_eq rfl)) $$ [How0 Hla0 HT2]
  · rfl
  · rfl
  · rfl
  · isplitr; · iexact Hb
    isplitl [How0]; · iexact How0
    isplitl [Hla0]; · iexact Hla0
    iexact HT2
  iintro HC2
  iapply (step_copy m K c 3 (by decide) (src' := pOwn c 1) (dst' := locM 1) ?_ ?_ ?_ (own m c 1) rfl (.of_eq rfl)) $$ [How1 Hla1 HT3]
  · rfl
  · rfl
  · rfl
  · isplitr; · iexact Hb
    isplitl [How1]; · iexact How1
    isplitl [Hla1]; · iexact Hla1
    iexact HT3
  iintro HC3
  unfold run; rw [wp_ret]; imodintro
  iapply Hk $$ %_ %_ [HC6 HC2 HC3]
  isplitl [HC6]; · iexact HC6
  isplitl [HC2]; · iexact HC2
  iexact HC3

set_option maxRecDepth 65536 in
theorem part3 (v2 v5 v8 v9 v10 v33 : BitVec 32) {Q : _ → sProp (MT nD τ sig Unit (Elt F) ℕ UU ℕ)} :
    iprop(base m K c ∗ owns (c : Thread nD τ) (pOwn c 2) fullShare (own m c 2) ∗ anyOf c (locM 2) ∗ tok c (.dma 4) 0 ∗ owns (c : Thread nD τ) (pOwn c 3) fullShare (own m c 3) ∗ anyOf c (locM 3) ∗ tok c (.dma 5) 0 ∗ lend c 0 ∗ OW c 0 ∗ tok (nb 0 c) barL 0 ∗ lend c 1 ∗ tok (nb 1 c) barL 1)
      ⊢ iprop((∀ a, ∀ b, (crd c 4 ∗ crd c 5 ∗ OW c 2) -∗ Q ⟨SemArray.scalar (sig.barrier 0 rfl), a, b⟩) -∗ run c (k0_part3 (Memref.whole main_arg0) h0 (Memref.whole cc0_stg0_0) h1 (Memref.whole cc0_stg1_0) h2 (Memref.whole cc0_scratch0) h3 (Memref.whole cc0_scratch1) h4 (Memref.whole cc0_scratch2) h5 cc0_scratch3 cc0_scratch4 cc0_scratch5 cc0_scratch6 cc0_scratch7 cc0_scratch8 cc0_scratch9 cc0_scratch10 cc0_scratch11 cc0_scratch12 cc0_scratch13 cc0_scratch14 c v2 v5 v8 v9 v10 v33) Q) := by
  rw [k0_part3_eq_skeleton]
  simp only [k0_part3_skel, semSignalWord, semWaitWord, Prog.lift, Prog.bind_op, Prog.bind_ret, Prog.pure_eq_ret, BitVec.reduceToNat]
  iintro ⟨#Hb, How2, Hla2, HT4, How3, Hla3, HT5, HL0, HO, HB0, HL1, HB1⟩ Hk
  iapply (step_copy m K c 4 (by decide) (src' := pOwn c 2) (dst' := locM 2) ?_ ?_ ?_ (own m c 2) rfl (.of_eq rfl)) $$ [How2 Hla2 HT4]
  · rfl
  · rfl
  · rfl
  · isplitr; · iexact Hb
    isplitl [How2]; · iexact How2
    isplitl [Hla2]; · iexact Hla2
    iexact HT4
  iintro HC4
  iapply (step_copy m K c 5 (by decide) (src' := pOwn c 3) (dst' := locM 3) ?_ ?_ ?_ (own m c 3) rfl (.of_eq rfl)) $$ [How3 Hla3 HT5]
  · rfl
  · rfl
  · rfl
  · isplitr; · iexact Hb
    isplitl [How3]; · iexact How3
    isplitl [Hla3]; · iexact Hla3
    iexact HT5
  iintro HC5
  iapply (step_signal m K c 0 0 rfl (dev1_eq c) rfl) $$ [HL0 HO HB0]
  · isplitr; · iexact Hb
    isplitl [HL0]; · iexact HL0
    isplitl [HO]; · iexact HO
    iexact HB0
  iintro HO
  iapply (step_signal m K c 1 1 rfl (dev2_eq c) rfl) $$ [HL1 HO HB1]
  · isplitr; · iexact Hb
    isplitl [HL1]; · iexact HL1
    isplitl [HO]; · iexact HO
    iexact HB1
  iintro HO
  unfold run; rw [wp_ret]; imodintro
  iapply Hk $$ %_ %_ [HC4 HC5 HO]
  isplitl [HC4]; · iexact HC4
  isplitl [HC5]; · iexact HC5
  iexact HO

set_option maxRecDepth 65536 in
theorem part4 (v2 v5 v8 v9 v11 v33 v94 c4 : BitVec 32) {Q : _ → sProp (MT nD τ sig Unit (Elt F) ℕ UU ℕ)} :
    iprop(base m K c ∗ lend c 2 ∗ OW c 2 ∗ tok (nb 2 c) barL 2 ∗ cred (tallyAt (cell c barL) () 3) ∗ pos c barL 0 ∗ crd c 6 ∗ pos c (.dma 6) 0 ∗ tok c (.dma 7) 0 ∗ tok (nb 0 c) (.dma 11) 0)
      ⊢ iprop(((near c ∗ pos c barL 1 ∗ anyOf (nb 0 c) (rcvM 1) ∗ anyOf (nb 0 c) (rcvM 2) ∗ anyOf (nb 0 c) (rcvM 3) ∗ anyOf (nb 1 c) (outM (qt c) 0) ∗ anyOf (nb 1 c) (outM (qt c) 1) ∗ anyOf (nb 1 c) (outM (qt c) 2) ∗ anyOf (nb 1 c) (outM (qt c) 3) ∗ anyOf (nb 1 c) (outM (qt (pZ c)) 0) ∗ anyOf (nb 1 c) (outM (qt (pZ c)) 1) ∗ anyOf (nb 2 c) (outM (qt c) 0) ∗ anyOf (nb 2 c) (outM (qt c) 1) ∗ anyOf (nb 2 c) (outM (qt c) 2) ∗ anyOf (nb 2 c) (outM (qt c) 3) ∗ anyOf (nb 2 c) (outM (qt (pY c)) 2) ∗ anyOf (nb 2 c) (outM (qt (pY c)) 3) ∗ pos c (.dma 6) 1 ∗ owns (c : Thread nD τ) (pOth c 0) fullShare (snd m c 0) ∗ crd c 7 ∗ OW c 4) -∗ Q ⟨⟩) -∗ run c (k0_part4 (Memref.whole main_arg0) h0 (Memref.whole cc0_stg0_0) h1 (Memref.whole cc0_stg1_0) h2 (Memref.whole cc0_scratch0) h3 (Memref.whole cc0_scratch1) h4 (Memref.whole cc0_scratch2) h5 cc0_scratch3 cc0_scratch4 cc0_scratch5 cc0_scratch6 cc0_scratch7 cc0_scratch8 cc0_scratch9 cc0_scratch10 cc0_scratch11 cc0_scratch12 cc0_scratch13 cc0_scratch14 c v2 v5 v8 v9 v11 v33 (SemArray.scalar (sig.barrier 0 rfl)) v94 c4) Q) := by
  rw [k0_part4_eq_skeleton]
  simp only [k0_part4_skel, semSignalWord, semWaitWord, Prog.lift, Prog.bind_op, Prog.bind_ret, Prog.pure_eq_ret, BitVec.reduceToNat]
  iintro ⟨#Hb, HL2, HO, HB2, HCB, HPB, HC6, HP6, HT7, HR11⟩ Hk
  iapply (step_signal m K c 2 2 rfl (dev3_eq c) rfl) $$ [HL2 HO HB2]
  · isplitr; · iexact Hb
    isplitl [HL2]; · iexact HL2
    isplitl [HO]; · iexact HO
    iexact HB2
  iintro HO
  iapply (step_barrier m K c rfl) $$ [HCB HO HPB]
  · isplitr; · iexact Hb
    isplitl [HCB]; · iexact HCB
    isplitl [HO]; · iexact HO
    iexact HPB
  iintro ⟨HO, HZB, #HHn, Hl0, Hl1, Hl2⟩
  ihave Hl0 := (BIBase.Entails.of_eq (lend_x c)) $$ Hl0
  ihave Hl1 := (BIBase.Entails.of_eq (lend_y c)) $$ Hl1
  ihave Hl2 := (BIBase.Entails.of_eq (lend_z c)) $$ Hl2
  icases Hl0 with ⟨HNX0, HNX1, HNX2, HNX3⟩
  icases Hl1 with ⟨HNY0, HNY1, HNY2, HNY3, HNYF0, HNYF1⟩
  icases Hl2 with ⟨HNZ0, HNZ1, HNZ2, HNZ3, HNZF2, HNZF3⟩
  iapply (step_waitR m K c 6 (by decide) 3 (by decide +kernel) (iprop(owns (c : Thread nD τ) sndM fullShare (snd m c 0) ∗ owns (c : Thread nD τ) (pOth c 0) fullShare (snd m c 0))) rfl ?_ ?_) $$ [HC6 HO HP6]
  · rfl
  · rfl
  · isplitr; · iexact Hb
    isplitl [HC6]; · iexact HC6
    isplitl [HO]; · iexact HO
    iexact HP6
  iintro ⟨HO, HZ6, ⟨Hsd, Hsx0⟩⟩
  ihave Hsd := (BIBase.Entails.of_eq (owns_sndS c fullShare (snd m c 0)).symm) $$ Hsd
  iapply (step_send m K c 0 7 11 (by decide) (by decide) 3 rfl (dev4_eq c) (src' := sndS) (dst' := rcvM 0) ?_ ?_ ?_ ?_ fullShare (snd m c 0) rfl (.of_eq (owns_sndS c fullShare (snd m c 0))) (.of_eq (pay_x m c 0))) $$ [Hsd HNX0 HO HT7 HR11]
  · rfl
  · rfl
  · rfl
  · rfl
  · isplitr; · iexact Hb
    isplitr; · iexact HHn
    isplitl [Hsd]; · iexact Hsd
    isplitl [HNX0]; · iexact HNX0
    isplitl [HO]; · iexact HO
    isplitl [HT7]; · iexact HT7
    iexact HR11
  iintro ⟨HC7, HO⟩
  unfold run; rw [wp_ret]; imodintro
  iapply Hk $$ [HZB HNX1 HNX2 HNX3 HNY0 HNY1 HNY2 HNY3 HNYF0 HNYF1 HNZ0 HNZ1 HNZ2 HNZ3 HNZF2 HNZF3 HZ6 Hsx0 HC7 HO]
  isplitr; · iexact HHn
  isplitl [HZB]; · iexact HZB
  isplitl [HNX1]; · iexact HNX1
  isplitl [HNX2]; · iexact HNX2
  isplitl [HNX3]; · iexact HNX3
  isplitl [HNY0]; · iexact HNY0
  isplitl [HNY1]; · iexact HNY1
  isplitl [HNY2]; · iexact HNY2
  isplitl [HNY3]; · iexact HNY3
  isplitl [HNYF0]; · iexact HNYF0
  isplitl [HNYF1]; · iexact HNYF1
  isplitl [HNZ0]; · iexact HNZ0
  isplitl [HNZ1]; · iexact HNZ1
  isplitl [HNZ2]; · iexact HNZ2
  isplitl [HNZ3]; · iexact HNZ3
  isplitl [HNZF2]; · iexact HNZF2
  isplitl [HNZF3]; · iexact HNZF3
  isplitl [HZ6]; · iexact HZ6
  isplitl [Hsx0]; · iexact Hsx0
  isplitl [HC7]; · iexact HC7
  iexact HO

set_option maxRecDepth 65536 in
theorem part5 (v2 v5 v8 v9 v33 : BitVec 32) {Q : _ → sProp (MT nD τ sig Unit (Elt F) ℕ UU ℕ)} :
    iprop(base m K c ∗ near c ∗ owns (c : Thread nD τ) (pOth c 1) fullShare (snd m c 1) ∗ anyOf (nb 0 c) (rcvM 1) ∗ OW c 4 ∗ tok c (.dma 8) 0 ∗ tok (nb 0 c) (.dma 12) 0 ∗ owns (c : Thread nD τ) (pOth c 2) fullShare (snd m c 2) ∗ anyOf (nb 0 c) (rcvM 2) ∗ tok c (.dma 9) 0 ∗ tok (nb 0 c) (.dma 13) 0)
      ⊢ iprop((∀ a, ∀ b, (crd c 8 ∗ crd c 9 ∗ OW c 6) -∗ Q ⟨a, b⟩) -∗ run c (k0_part5 (Memref.whole main_arg0) h0 (Memref.whole cc0_stg0_0) h1 (Memref.whole cc0_stg1_0) h2 (Memref.whole cc0_scratch0) h3 (Memref.whole cc0_scratch1) h4 (Memref.whole cc0_scratch2) h5 cc0_scratch3 cc0_scratch4 cc0_scratch5 cc0_scratch6 cc0_scratch7 cc0_scratch8 cc0_scratch9 cc0_scratch10 cc0_scratch11 cc0_scratch12 cc0_scratch13 cc0_scratch14 c v2 v5 v8 v9 v33) Q) := by
  rw [k0_part5_eq_skeleton]
  simp only [k0_part5_skel, semSignalWord, semWaitWord, Prog.lift, Prog.bind_op, Prog.bind_ret, Prog.pure_eq_ret, BitVec.reduceToNat]
  iintro ⟨#Hb, #HHn, Hsx1, HNX1, HO, HT8, HR12, Hsx2, HNX2, HT9, HR13⟩ Hk
  iapply (step_send m K c 0 8 12 (by decide) (by decide) 4 rfl (dev5_eq c) (src' := pOth c 1) (dst' := rcvM 1) ?_ ?_ ?_ ?_ fullShare (snd m c 1) rfl (.of_eq rfl) (.of_eq (pay_x m c 1))) $$ [Hsx1 HNX1 HO HT8 HR12]
  · rfl
  · rfl
  · rfl
  · rfl
  · isplitr; · iexact Hb
    isplitr; · iexact HHn
    isplitl [Hsx1]; · iexact Hsx1
    isplitl [HNX1]; · iexact HNX1
    isplitl [HO]; · iexact HO
    isplitl [HT8]; · iexact HT8
    iexact HR12
  iintro ⟨HC8, HO⟩
  iapply (step_send m K c 0 9 13 (by decide) (by decide) 5 rfl (dev6_eq c) (src' := pOth c 2) (dst' := rcvM 2) ?_ ?_ ?_ ?_ fullShare (snd m c 2) rfl (.of_eq rfl) (.of_eq (pay_x m c 2))) $$ [Hsx2 HNX2 HO HT9 HR13]
  · rfl
  · rfl
  · rfl
  · rfl
  · isplitr; · iexact Hb
    isplitr; · iexact HHn
    isplitl [Hsx2]; · iexact Hsx2
    isplitl [HNX2]; · iexact HNX2
    isplitl [HO]; · iexact HO
    isplitl [HT9]; · iexact HT9
    iexact HR13
  iintro ⟨HC9, HO⟩
  unfold run; rw [wp_ret]; imodintro
  iapply Hk $$ %_ %_ [HC8 HC9 HO]
  isplitl [HC8]; · iexact HC8
  isplitl [HC9]; · iexact HC9
  iexact HO

set_option maxRecDepth 65536 in
theorem part6 (v5 v8 v9 v155 c4 : BitVec 32) {Q : _ → sProp (MT nD τ sig Unit (Elt F) ℕ UU ℕ)} :
    iprop(base m K c ∗ near c ∗ owns (c : Thread nD τ) (pOth c 3) fullShare (snd m c 3) ∗ anyOf (nb 0 c) (rcvM 3) ∗ OW c 6 ∗ tok c (.dma 10) 0 ∗ tok (nb 0 c) (.dma 14) 0 ∗ crd c 2 ∗ pos c (.dma 2) 0 ∗ crd c 11 ∗ pos c (.dma 11) 0)
      ⊢ iprop(((crd c 10 ∗ pos c (.dma 2) 1 ∗ owns (c : Thread nD τ) (pOwn c 0) fullShare (own m c 0) ∗ OW c 7 ∗ pos c (.dma 11) 1 ∗ owns (c : Thread nD τ) (locM 0) fullShare (own m c 0) ∗ owns (c : Thread nD τ) (rcvM 0) fullShare (snd m (pX c) 0)) -∗ Q ⟨k0_pay1 (own m c 0) (snd m (pX c) 0), k0_pay2 (own m c 0) (snd m (pX c) 0), Scalar.ofBits .f32 0x44800000#32⟩) -∗ run c (k0_part6 (Memref.whole main_arg0) h0 (Memref.whole cc0_stg0_0) h1 (Memref.whole cc0_stg1_0) h2 (Memref.whole cc0_scratch0) h3 (Memref.whole cc0_scratch1) h4 (Memref.whole cc0_scratch2) h5 cc0_scratch3 cc0_scratch4 cc0_scratch5 cc0_scratch6 cc0_scratch7 cc0_scratch8 cc0_scratch9 cc0_scratch10 cc0_scratch11 cc0_scratch12 cc0_scratch13 cc0_scratch14 c v5 v8 v9 v155 c4) Q) := by
  rw [k0_part6_eq_skeleton]
  simp only [k0_part6_skel, semSignalWord, semWaitWord, Prog.lift, Prog.bind_op, Prog.bind_ret, Prog.pure_eq_ret, BitVec.reduceToNat]
  iintro ⟨#Hb, #HHn, Hsx3, HNX3, HO, HT10, HR14, HC2, HP2, HC11, HP11⟩ Hk
  iapply (step_send m K c 0 10 14 (by decide) (by decide) 6 rfl (dev7_eq c) (src' := pOth c 3) (dst' := rcvM 3) ?_ ?_ ?_ ?_ fullShare (snd m c 3) rfl (.of_eq rfl) (.of_eq (pay_x m c 3))) $$ [Hsx3 HNX3 HO HT10 HR14]
  · rfl
  · rfl
  · rfl
  · rfl
  · isplitr; · iexact Hb
    isplitr; · iexact HHn
    isplitl [Hsx3]; · iexact Hsx3
    isplitl [HNX3]; · iexact HNX3
    isplitl [HO]; · iexact HO
    isplitl [HT10]; · iexact HT10
    iexact HR14
  iintro ⟨HC10, HO⟩
  iapply (step_waitR m K c 2 (by decide) 7 (by decide +kernel) (iprop(owns (c : Thread nD τ) (locM 0) fullShare (own m c 0) ∗ owns (c : Thread nD τ) (pOwn c 0) fullShare (own m c 0))) rfl ?_ ?_) $$ [HC2 HO HP2]
  · rfl
  · rfl
  · isplitr; · iexact Hb
    isplitl [HC2]; · iexact HC2
    isplitl [HO]; · iexact HO
    iexact HP2
  iintro ⟨HO, HZ2, ⟨Hlo0, How0⟩⟩
  iapply (step_waitR m K c 11 (by decide) 7 (by decide +kernel) (owns (c : Thread nD τ) (rcvM 0) fullShare (snd m (pX c) 0)) rfl ?_ ?_) $$ [HC11 HO HP11]
  · rfl
  · rfl
  · isplitr; · iexact Hb
    isplitl [HC11]; · iexact HC11
    isplitl [HO]; · iexact HO
    iexact HP11
  iintro ⟨HO, HZ11, Hrx0⟩
  iapply (step_load c (hr := fun _ => rfl) (M' := locM 0) ?_ fullShare (own m c 0)) $$ [Hlo0]
  · rfl
  · iexact Hlo0
  iintro Hlo0
  iapply (step_load c (hr := fun _ => rfl) (M' := rcvM 0) ?_ fullShare (snd m (pX c) 0)) $$ [Hrx0]
  · rfl
  · iexact Hrx0
  iintro Hrx0
  unfold run; rw [wp_ret]; imodintro
  iapply Hk $$ [HC10 HZ2 How0 HO HZ11 Hlo0 Hrx0]
  isplitl [HC10]; · iexact HC10
  isplitl [HZ2]; · iexact HZ2
  isplitl [How0]; · iexact How0
  isplitl [HO]; · iexact HO
  isplitl [HZ11]; · iexact HZ11
  isplitl [Hlo0]; · iexact Hlo0
  iexact Hrx0

set_option maxRecDepth 65536 in
theorem part7 (v2 v8 v10 v33 : BitVec 32) {Q : _ → sProp (MT nD τ sig Unit (Elt F) ℕ UU ℕ)} :
    iprop(base m K c ∗ near c ∗ owns (c : Thread nD τ) (Memref.whole cc0_stg0_0) fullShare (gam m c) ∗ anyOf c (outM (qt c) 0) ∗ anyOf (nb 1 c) (outM (qt c) 0) ∗ OW c 7 ∗ tok c (.dma 15) 0 ∗ tok (nb 1 c) (.dma 19) 0)
      ⊢ iprop(((owns (c : Thread nD τ) (Memref.whole cc0_stg0_0) fullShare (gam m c) ∗ owns (c : Thread nD τ) (outM (qt c) 0) half2 (res m c 0) ∗ crd c 15 ∗ OW c 8) -∗ Q ⟨⟩) -∗ run c (k0_part7 (Memref.whole main_arg0) h0 (Memref.whole cc0_stg0_0) h1 (Memref.whole cc0_stg1_0) h2 (Memref.whole cc0_scratch0) h3 (Memref.whole cc0_scratch1) h4 (Memref.whole cc0_scratch2) h5 cc0_scratch3 cc0_scratch4 cc0_scratch5 cc0_scratch6 cc0_scratch7 cc0_scratch8 cc0_scratch9 cc0_scratch10 cc0_scratch11 cc0_scratch12 cc0_scratch13 cc0_scratch14 c v2 v8 v10 v33 (k0_pay1 (own m c 0) (snd m (pX c) 0)) (k0_pay2 (own m c 0) (snd m (pX c) 0)) (Scalar.ofBits .f32 0x44800000#32)) Q) := by
  rw [k0_part7_eq_skeleton]
  simp only [k0_part7_skel, semSignalWord, semWaitWord, Prog.lift, Prog.bind_op, Prog.bind_ret, Prog.pure_eq_ret, BitVec.reduceToNat]
  iintro ⟨#Hb, #HHn, HG, Hoa0, HNY0, HO, HT15, HR19⟩ Hk
  iapply (step_loadG c fullShare (gam m c)) $$ [HG]
  · iexact HG
  iintro HG
  ihave Hoa0 := (BIBase.Entails.of_eq (any_open c (outM (qt c) 0))) $$ Hoa0
  icases Hoa0 with ⟨%X0, Hou0⟩
  iapply (step_load c (hr := fun _ => rfl) (M' := outM (qt c) 0) ?_ fullShare X0) $$ [Hou0]
  · exact off3_slice c 0
  · iexact Hou0
  iintro Hou0
  iapply (step_store c (hr := fun _ => rfl) (M' := outM (qt c) 0) ?_ X0 (res m c 0) ?_) $$ [Hou0]
  · exact off3_slice c 0
  · rfl
  · iexact Hou0
  iintro Hos0
  ihave Hos0 := (owns_halve c (outM (qt c) 0) (res m c 0)) $$ Hos0
  icases Hos0 with ⟨Hoh0, Hoi0⟩
  iapply (step_send m K c 1 15 19 (by decide) (by decide) 7 rfl (dev8_eq c) (src' := outM (qt c) 0) (dst' := outM (qt c) 0) ?_ ?_ ?_ ?_ half1 (res m c 0) rfl (.of_eq rfl) (.of_eq (pay_y m c 0))) $$ [Hoh0 HNY0 HO HT15 HR19]
  · exact off4_slice c 0
  · exact off4_slice c 0
  · rfl
  · rfl
  · isplitr; · iexact Hb
    isplitr; · iexact HHn
    isplitl [Hoh0]; · iexact Hoh0
    isplitl [HNY0]; · iexact HNY0
    isplitl [HO]; · iexact HO
    isplitl [HT15]; · iexact HT15
    iexact HR19
  iintro ⟨HC15, HO⟩
  unfold run; rw [wp_ret]; imodintro
  iapply Hk $$ [HG Hoi0 HC15 HO]
  isplitl [HG]; · iexact HG
  isplitl [Hoi0]; · iexact Hoi0
  isplitl [HC15]; · iexact HC15
  iexact HO

set_option maxRecDepth 65536 in
theorem part8 (v2 v5 v8 v9 v11 : BitVec 32) {Q : _ → sProp (MT nD τ sig Unit (Elt F) ℕ UU ℕ)} :
    iprop(base m K c ∗ near c ∗ owns (c : Thread nD τ) (outM (qt c) 0) half2 (res m c 0) ∗ anyOf (nb 2 c) (outM (qt c) 0) ∗ OW c 8 ∗ tok c (.dma 23) 0 ∗ tok (nb 2 c) (.dma 27) 0 ∗ crd c 3 ∗ pos c (.dma 3) 0 ∗ crd c 12 ∗ pos c (.dma 12) 0)
      ⊢ iprop(((crd c 23 ∗ pos c (.dma 3) 1 ∗ owns (c : Thread nD τ) (pOwn c 1) fullShare (own m c 1) ∗ OW c 9 ∗ pos c (.dma 12) 1 ∗ owns (c : Thread nD τ) (locM 1) fullShare (own m c 1) ∗ owns (c : Thread nD τ) (rcvM 1) fullShare (snd m (pX c) 1)) -∗ Q ⟨own m c 1, snd m (pX c) 1⟩) -∗ run c (k0_part8 (Memref.whole main_arg0) h0 (Memref.whole cc0_stg0_0) h1 (Memref.whole cc0_stg1_0) h2 (Memref.whole cc0_scratch0) h3 (Memref.whole cc0_scratch1) h4 (Memref.whole cc0_scratch2) h5 cc0_scratch3 cc0_scratch4 cc0_scratch5 cc0_scratch6 cc0_scratch7 cc0_scratch8 cc0_scratch9 cc0_scratch10 cc0_scratch11 cc0_scratch12 cc0_scratch13 cc0_scratch14 c v2 v5 v8 v9 v11) Q) := by
  rw [k0_part8_eq_skeleton]
  simp only [k0_part8_skel, semSignalWord, semWaitWord, Prog.lift, Prog.bind_op, Prog.bind_ret, Prog.pure_eq_ret, BitVec.reduceToNat]
  iintro ⟨#Hb, #HHn, Hoi0, HNZ0, HO, HT23, HR27, HC3, HP3, HC12, HP12⟩ Hk
  iapply (step_send m K c 2 23 27 (by decide) (by decide) 8 rfl (dev9_eq c) (src' := outM (qt c) 0) (dst' := outM (qt c) 0) ?_ ?_ ?_ ?_ half2 (res m c 0) rfl (.of_eq rfl) (.of_eq (pay_z m c 0))) $$ [Hoi0 HNZ0 HO HT23 HR27]
  · exact off4_slice c 0
  · exact off4_slice c 0
  · rfl
  · rfl
  · isplitr; · iexact Hb
    isplitr; · iexact HHn
    isplitl [Hoi0]; · iexact Hoi0
    isplitl [HNZ0]; · iexact HNZ0
    isplitl [HO]; · iexact HO
    isplitl [HT23]; · iexact HT23
    iexact HR27
  iintro ⟨HC23, HO⟩
  iapply (step_waitR m K c 3 (by decide) 9 (by decide +kernel) (iprop(owns (c : Thread nD τ) (locM 1) fullShare (own m c 1) ∗ owns (c : Thread nD τ) (pOwn c 1) fullShare (own m c 1))) rfl ?_ ?_) $$ [HC3 HO HP3]
  · rfl
  · rfl
  · isplitr; · iexact Hb
    isplitl [HC3]; · iexact HC3
    isplitl [HO]; · iexact HO
    iexact HP3
  iintro ⟨HO, HZ3, ⟨Hlo1, How1⟩⟩
  iapply (step_waitR m K c 12 (by decide) 9 (by decide +kernel) (owns (c : Thread nD τ) (rcvM 1) fullShare (snd m (pX c) 1)) rfl ?_ ?_) $$ [HC12 HO HP12]
  · rfl
  · rfl
  · isplitr; · iexact Hb
    isplitl [HC12]; · iexact HC12
    isplitl [HO]; · iexact HO
    iexact HP12
  iintro ⟨HO, HZ12, Hrx1⟩
  iapply (step_load c (hr := fun _ => rfl) (M' := locM 1) ?_ fullShare (own m c 1)) $$ [Hlo1]
  · rfl
  · iexact Hlo1
  iintro Hlo1
  iapply (step_load c (hr := fun _ => rfl) (M' := rcvM 1) ?_ fullShare (snd m (pX c) 1)) $$ [Hrx1]
  · rfl
  · iexact Hrx1
  iintro Hrx1
  unfold run; rw [wp_ret]; imodintro
  iapply Hk $$ [HC23 HZ3 How1 HO HZ12 Hlo1 Hrx1]
  isplitl [HC23]; · iexact HC23
  isplitl [HZ3]; · iexact HZ3
  isplitl [How1]; · iexact How1
  isplitl [HO]; · iexact HO
  isplitl [HZ12]; · iexact HZ12
  isplitl [Hlo1]; · iexact Hlo1
  iexact Hrx1

set_option maxRecDepth 65536 in
theorem part9 (v2 v8 v10 v33 : BitVec 32) {Q : _ → sProp (MT nD τ sig Unit (Elt F) ℕ UU ℕ)} :
    iprop(base m K c ∗ near c ∗ owns (c : Thread nD τ) (Memref.whole cc0_stg0_0) fullShare (gam m c) ∗ anyOf c (outM (qt c) 1) ∗ anyOf (nb 1 c) (outM (qt c) 1) ∗ OW c 9 ∗ tok c (.dma 16) 0 ∗ tok (nb 1 c) (.dma 20) 0)
      ⊢ iprop((∀ a, (owns (c : Thread nD τ) (Memref.whole cc0_stg0_0) fullShare (gam m c) ∗ owns (c : Thread nD τ) (outM (qt c) 1) half2 (res m c 1) ∗ crd c 16 ∗ OW c 10) -∗ Q a) -∗ run c (k0_part9 (Memref.whole main_arg0) h0 (Memref.whole cc0_stg0_0) h1 (Memref.whole cc0_stg1_0) h2 (Memref.whole cc0_scratch0) h3 (Memref.whole cc0_scratch1) h4 (Memref.whole cc0_scratch2) h5 cc0_scratch3 cc0_scratch4 cc0_scratch5 cc0_scratch6 cc0_scratch7 cc0_scratch8 cc0_scratch9 cc0_scratch10 cc0_scratch11 cc0_scratch12 cc0_scratch13 cc0_scratch14 c v2 v8 v10 v33 (own m c 1) (snd m (pX c) 1)) Q) := by
  rw [k0_part9_eq_skeleton]
  simp only [k0_part9_skel, semSignalWord, semWaitWord, Prog.lift, Prog.bind_op, Prog.bind_ret, Prog.pure_eq_ret, BitVec.reduceToNat]
  iintro ⟨#Hb, #HHn, HG, Hoa1, HNY1, HO, HT16, HR20⟩ Hk
  iapply (step_loadG c fullShare (gam m c)) $$ [HG]
  · iexact HG
  iintro HG
  ihave Hoa1 := (BIBase.Entails.of_eq (any_open c (outM (qt c) 1))) $$ Hoa1
  icases Hoa1 with ⟨%X1, Hou1⟩
  iapply (step_load c (hr := fun _ => rfl) (M' := outM (qt c) 1) ?_ fullShare X1) $$ [Hou1]
  · exact off3_slice c 1
  · iexact Hou1
  iintro Hou1
  iapply (step_store c (hr := fun _ => rfl) (M' := outM (qt c) 1) ?_ X1 (res m c 1) ?_) $$ [Hou1]
  · exact off3_slice c 1
  · rfl
  · iexact Hou1
  iintro Hos1
  ihave Hos1 := (owns_halve c (outM (qt c) 1) (res m c 1)) $$ Hos1
  icases Hos1 with ⟨Hoh1, Hoi1⟩
  iapply (step_send m K c 1 16 20 (by decide) (by decide) 9 rfl (dev10_eq c) (src' := outM (qt c) 1) (dst' := outM (qt c) 1) ?_ ?_ ?_ ?_ half1 (res m c 1) rfl (.of_eq rfl) (.of_eq (pay_y m c 1))) $$ [Hoh1 HNY1 HO HT16 HR20]
  · exact off4_slice c 1
  · exact off4_slice c 1
  · rfl
  · rfl
  · isplitr; · iexact Hb
    isplitr; · iexact HHn
    isplitl [Hoh1]; · iexact Hoh1
    isplitl [HNY1]; · iexact HNY1
    isplitl [HO]; · iexact HO
    isplitl [HT16]; · iexact HT16
    iexact HR20
  iintro ⟨HC16, HO⟩
  unfold run; rw [wp_ret]; imodintro
  iapply Hk $$ %_ [HG Hoi1 HC16 HO]
  isplitl [HG]; · iexact HG
  isplitl [Hoi1]; · iexact Hoi1
  isplitl [HC16]; · iexact HC16
  iexact HO

set_option maxRecDepth 65536 in
theorem part10 (v2 v5 v8 v9 v11 v33 v290 : BitVec 32) {Q : _ → sProp (MT nD τ sig Unit (Elt F) ℕ UU ℕ)} :
    iprop(base m K c ∗ near c ∗ owns (c : Thread nD τ) (outM (qt c) 1) half2 (res m c 1) ∗ anyOf (nb 2 c) (outM (qt c) 1) ∗ OW c 10 ∗ tok c (.dma 24) 0 ∗ tok (nb 2 c) (.dma 28) 0 ∗ crd c 4 ∗ pos c (.dma 4) 0 ∗ crd c 13 ∗ pos c (.dma 13) 0)
      ⊢ iprop(((crd c 24 ∗ pos c (.dma 4) 1 ∗ owns (c : Thread nD τ) (locM 2) fullShare (own m c 2) ∗ owns (c : Thread nD τ) (pOwn c 2) fullShare (own m c 2) ∗ OW c 11 ∗ pos c (.dma 13) 1 ∗ owns (c : Thread nD τ) (rcvM 2) fullShare (snd m (pX c) 2)) -∗ Q ⟨⟩) -∗ run c (k0_part10 (Memref.whole main_arg0) h0 (Memref.whole cc0_stg0_0) h1 (Memref.whole cc0_stg1_0) h2 (Memref.whole cc0_scratch0) h3 (Memref.whole cc0_scratch1) h4 (Memref.whole cc0_scratch2) h5 cc0_scratch3 cc0_scratch4 cc0_scratch5 cc0_scratch6 cc0_scratch7 cc0_scratch8 cc0_scratch9 cc0_scratch10 cc0_scratch11 cc0_scratch12 cc0_scratch13 cc0_scratch14 c v2 v5 v8 v9 v11 v33 v290) Q) := by
  rw [k0_part10_eq_skeleton]
  simp only [k0_part10_skel, semSignalWord, semWaitWord, Prog.lift, Prog.bind_op, Prog.bind_ret, Prog.pure_eq_ret, BitVec.reduceToNat]
  iintro ⟨#Hb, #HHn, Hoi1, HNZ1, HO, HT24, HR28, HC4, HP4, HC13, HP13⟩ Hk
  iapply (step_send m K c 2 24 28 (by decide) (by decide) 10 rfl (dev11_eq c) (src' := outM (qt c) 1) (dst' := outM (qt c) 1) ?_ ?_ ?_ ?_ half2 (res m c 1) rfl (.of_eq rfl) (.of_eq (pay_z m c 1))) $$ [Hoi1 HNZ1 HO HT24 HR28]
  · exact off4_slice c 1
  · exact off4_slice c 1
  · rfl
  · rfl
  · isplitr; · iexact Hb
    isplitr; · iexact HHn
    isplitl [Hoi1]; · iexact Hoi1
    isplitl [HNZ1]; · iexact HNZ1
    isplitl [HO]; · iexact HO
    isplitl [HT24]; · iexact HT24
    iexact HR28
  iintro ⟨HC24, HO⟩
  iapply (step_waitR m K c 4 (by decide) 11 (by decide +kernel) (iprop(owns (c : Thread nD τ) (locM 2) fullShare (own m c 2) ∗ owns (c : Thread nD τ) (pOwn c 2) fullShare (own m c 2))) rfl ?_ ?_) $$ [HC4 HO HP4]
  · rfl
  · rfl
  · isplitr; · iexact Hb
    isplitl [HC4]; · iexact HC4
    isplitl [HO]; · iexact HO
    iexact HP4
  iintro ⟨HO, HZ4, ⟨Hlo2, How2⟩⟩
  iapply (step_waitR m K c 13 (by decide) 11 (by decide +kernel) (owns (c : Thread nD τ) (rcvM 2) fullShare (snd m (pX c) 2)) rfl ?_ ?_) $$ [HC13 HO HP13]
  · rfl
  · rfl
  · isplitr; · iexact Hb
    isplitl [HC13]; · iexact HC13
    isplitl [HO]; · iexact HO
    iexact HP13
  iintro ⟨HO, HZ13, Hrx2⟩
  unfold run; rw [wp_ret]; imodintro
  iapply Hk $$ [HC24 HZ4 Hlo2 How2 HO HZ13 Hrx2]
  isplitl [HC24]; · iexact HC24
  isplitl [HZ4]; · iexact HZ4
  isplitl [Hlo2]; · iexact Hlo2
  isplitl [How2]; · iexact How2
  isplitl [HO]; · iexact HO
  isplitl [HZ13]; · iexact HZ13
  iexact Hrx2

set_option maxRecDepth 65536 in
theorem part11 (v2 v8 v10 v33 : BitVec 32) {Q : _ → sProp (MT nD τ sig Unit (Elt F) ℕ UU ℕ)} :
    iprop(base m K c ∗ owns (c : Thread nD τ) (locM 2) fullShare (own m c 2) ∗ owns (c : Thread nD τ) (rcvM 2) fullShare (snd m (pX c) 2) ∗ owns (c : Thread nD τ) (Memref.whole cc0_stg0_0) fullShare (gam m c) ∗ anyOf c (outM (qt c) 2))
      ⊢ iprop(((owns (c : Thread nD τ) (locM 2) fullShare (own m c 2) ∗ owns (c : Thread nD τ) (rcvM 2) fullShare (snd m (pX c) 2) ∗ owns (c : Thread nD τ) (Memref.whole cc0_stg0_0) fullShare (gam m c) ∗ owns (c : Thread nD τ) (outM (qt c) 2) half1 (res m c 2) ∗ owns (c : Thread nD τ) (outM (qt c) 2) half2 (res m c 2)) -∗ Q ⟨⟩) -∗ run c (k0_part11 (Memref.whole main_arg0) h0 (Memref.whole cc0_stg0_0) h1 (Memref.whole cc0_stg1_0) h2 (Memref.whole cc0_scratch0) h3 (Memref.whole cc0_scratch1) h4 (Memref.whole cc0_scratch2) h5 cc0_scratch3 cc0_scratch4 cc0_scratch5 cc0_scratch6 cc0_scratch7 cc0_scratch8 cc0_scratch9 cc0_scratch10 cc0_scratch11 cc0_scratch12 cc0_scratch13 cc0_scratch14 c v2 v8 v10 v33) Q) := by
  rw [k0_part11_eq_skeleton]
  simp only [k0_part11_skel, semSignalWord, semWaitWord, Prog.lift, Prog.bind_op, Prog.bind_ret, Prog.pure_eq_ret, BitVec.reduceToNat]
  iintro ⟨#Hb, Hlo2, Hrx2, HG, Hoa2⟩ Hk
  iapply (step_load c (hr := fun _ => rfl) (M' := locM 2) ?_ fullShare (own m c 2)) $$ [Hlo2]
  · rfl
  · iexact Hlo2
  iintro Hlo2
  iapply (step_load c (hr := fun _ => rfl) (M' := rcvM 2) ?_ fullShare (snd m (pX c) 2)) $$ [Hrx2]
  · rfl
  · iexact Hrx2
  iintro Hrx2
  iapply (step_loadG c fullShare (gam m c)) $$ [HG]
  · iexact HG
  iintro HG
  ihave Hoa2 := (BIBase.Entails.of_eq (any_open c (outM (qt c) 2))) $$ Hoa2
  icases Hoa2 with ⟨%X2, Hou2⟩
  iapply (step_load c (hr := fun _ => rfl) (M' := outM (qt c) 2) ?_ fullShare X2) $$ [Hou2]
  · exact off3_slice c 2
  · iexact Hou2
  iintro Hou2
  iapply (step_store c (hr := fun _ => rfl) (M' := outM (qt c) 2) ?_ X2 (res m c 2) ?_) $$ [Hou2]
  · exact off3_slice c 2
  · rfl
  · iexact Hou2
  iintro Hos2
  ihave Hos2 := (owns_halve c (outM (qt c) 2) (res m c 2)) $$ Hos2
  icases Hos2 with ⟨Hoh2, Hoi2⟩
  unfold run; rw [wp_ret]; imodintro
  iapply Hk $$ [Hlo2 Hrx2 HG Hoh2 Hoi2]
  isplitl [Hlo2]; · iexact Hlo2
  isplitl [Hrx2]; · iexact Hrx2
  isplitl [HG]; · iexact HG
  isplitl [Hoh2]; · iexact Hoh2
  iexact Hoi2

set_option maxRecDepth 65536 in
theorem part12 (v2 v5 v8 v9 v11 v33 : BitVec 32) {Q : _ → sProp (MT nD τ sig Unit (Elt F) ℕ UU ℕ)} :
    iprop(base m K c ∗ near c ∗ owns (c : Thread nD τ) (outM (qt c) 2) half1 (res m c 2) ∗ anyOf (nb 1 c) (outM (qt c) 2) ∗ OW c 11 ∗ tok c (.dma 17) 0 ∗ tok (nb 1 c) (.dma 21) 0 ∗ owns (c : Thread nD τ) (outM (qt c) 2) half2 (res m c 2) ∗ anyOf (nb 2 c) (outM (qt c) 2) ∗ tok c (.dma 25) 0 ∗ tok (nb 2 c) (.dma 29) 0 ∗ crd c 5 ∗ pos c (.dma 5) 0)
      ⊢ iprop(((crd c 17 ∗ crd c 25 ∗ OW c 13 ∗ pos c (.dma 5) 1 ∗ owns (c : Thread nD τ) (locM 3) fullShare (own m c 3) ∗ owns (c : Thread nD τ) (pOwn c 3) fullShare (own m c 3)) -∗ Q ⟨⟩) -∗ run c (k0_part12 (Memref.whole main_arg0) h0 (Memref.whole cc0_stg0_0) h1 (Memref.whole cc0_stg1_0) h2 (Memref.whole cc0_scratch0) h3 (Memref.whole cc0_scratch1) h4 (Memref.whole cc0_scratch2) h5 cc0_scratch3 cc0_scratch4 cc0_scratch5 cc0_scratch6 cc0_scratch7 cc0_scratch8 cc0_scratch9 cc0_scratch10 cc0_scratch11 cc0_scratch12 cc0_scratch13 cc0_scratch14 c v2 v5 v8 v9 v11 v33) Q) := by
  rw [k0_part12_eq_skeleton]
  simp only [k0_part12_skel, semSignalWord, semWaitWord, Prog.lift, Prog.bind_op, Prog.bind_ret, Prog.pure_eq_ret, BitVec.reduceToNat]
  iintro ⟨#Hb, #HHn, Hoh2, HNY2, HO, HT17, HR21, Hoi2, HNZ2, HT25, HR29, HC5, HP5⟩ Hk
  iapply (step_send m K c 1 17 21 (by decide) (by decide) 11 rfl (dev12_eq c) (src' := outM (qt c) 2) (dst' := outM (qt c) 2) ?_ ?_ ?_ ?_ half1 (res m c 2) rfl (.of_eq rfl) (.of_eq (pay_y m c 2))) $$ [Hoh2 HNY2 HO HT17 HR21]
  · exact off4_slice c 2
  · exact off4_slice c 2
  · rfl
  · rfl
  · isplitr; · iexact Hb
    isplitr; · iexact HHn
    isplitl [Hoh2]; · iexact Hoh2
    isplitl [HNY2]; · iexact HNY2
    isplitl [HO]; · iexact HO
    isplitl [HT17]; · iexact HT17
    iexact HR21
  iintro ⟨HC17, HO⟩
  iapply (step_send m K c 2 25 29 (by decide) (by decide) 12 rfl (dev13_eq c) (src' := outM (qt c) 2) (dst' := outM (qt c) 2) ?_ ?_ ?_ ?_ half2 (res m c 2) rfl (.of_eq rfl) (.of_eq (pay_z m c 2))) $$ [Hoi2 HNZ2 HO HT25 HR29]
  · exact off4_slice c 2
  · exact off4_slice c 2
  · rfl
  · rfl
  · isplitr; · iexact Hb
    isplitr; · iexact HHn
    isplitl [Hoi2]; · iexact Hoi2
    isplitl [HNZ2]; · iexact HNZ2
    isplitl [HO]; · iexact HO
    isplitl [HT25]; · iexact HT25
    iexact HR29
  iintro ⟨HC25, HO⟩
  iapply (step_waitR m K c 5 (by decide) 13 (by decide +kernel) (iprop(owns (c : Thread nD τ) (locM 3) fullShare (own m c 3) ∗ owns (c : Thread nD τ) (pOwn c 3) fullShare (own m c 3))) rfl ?_ ?_) $$ [HC5 HO HP5]
  · rfl
  · rfl
  · isplitr; · iexact Hb
    isplitl [HC5]; · iexact HC5
    isplitl [HO]; · iexact HO
    iexact HP5
  iintro ⟨HO, HZ5, ⟨Hlo3, How3⟩⟩
  unfold run; rw [wp_ret]; imodintro
  iapply Hk $$ [HC17 HC25 HO HZ5 Hlo3 How3]
  isplitl [HC17]; · iexact HC17
  isplitl [HC25]; · iexact HC25
  isplitl [HO]; · iexact HO
  isplitl [HZ5]; · iexact HZ5
  isplitl [Hlo3]; · iexact Hlo3
  iexact How3

set_option maxRecDepth 65536 in
theorem part13 (v2 v8 v10 v33 : BitVec 32) {Q : _ → sProp (MT nD τ sig Unit (Elt F) ℕ UU ℕ)} :
    iprop(base m K c ∗ crd c 14 ∗ OW c 13 ∗ pos c (.dma 14) 0 ∗ owns (c : Thread nD τ) (locM 3) fullShare (own m c 3) ∗ owns (c : Thread nD τ) (Memref.whole cc0_stg0_0) fullShare (gam m c) ∗ anyOf c (outM (qt c) 3))
      ⊢ iprop((∀ a, ∀ b, (OW c 13 ∗ pos c (.dma 14) 1 ∗ owns (c : Thread nD τ) (locM 3) fullShare (own m c 3) ∗ owns (c : Thread nD τ) (rcvM 3) fullShare (snd m (pX c) 3) ∗ owns (c : Thread nD τ) (Memref.whole cc0_stg0_0) fullShare (gam m c) ∗ owns (c : Thread nD τ) (outM (qt c) 3) half1 (res m c 3) ∗ owns (c : Thread nD τ) (outM (qt c) 3) half2 (res m c 3)) -∗ Q ⟨a, b⟩) -∗ run c (k0_part13 (Memref.whole main_arg0) h0 (Memref.whole cc0_stg0_0) h1 (Memref.whole cc0_stg1_0) h2 (Memref.whole cc0_scratch0) h3 (Memref.whole cc0_scratch1) h4 (Memref.whole cc0_scratch2) h5 cc0_scratch3 cc0_scratch4 cc0_scratch5 cc0_scratch6 cc0_scratch7 cc0_scratch8 cc0_scratch9 cc0_scratch10 cc0_scratch11 cc0_scratch12 cc0_scratch13 cc0_scratch14 c v2 v8 v10 v33) Q) := by
  rw [k0_part13_eq_skeleton]
  simp only [k0_part13_skel, semSignalWord, semWaitWord, Prog.lift, Prog.bind_op, Prog.bind_ret, Prog.pure_eq_ret, BitVec.reduceToNat]
  iintro ⟨#Hb, HC14, HO, HP14, Hlo3, HG, Hoa3⟩ Hk
  iapply (step_waitR m K c 14 (by decide) 13 (by decide +kernel) (owns (c : Thread nD τ) (rcvM 3) fullShare (snd m (pX c) 3)) rfl ?_ ?_) $$ [HC14 HO HP14]
  · rfl
  · rfl
  · isplitr; · iexact Hb
    isplitl [HC14]; · iexact HC14
    isplitl [HO]; · iexact HO
    iexact HP14
  iintro ⟨HO, HZ14, Hrx3⟩
  iapply (step_load c (hr := fun _ => rfl) (M' := locM 3) ?_ fullShare (own m c 3)) $$ [Hlo3]
  · rfl
  · iexact Hlo3
  iintro Hlo3
  iapply (step_load c (hr := fun _ => rfl) (M' := rcvM 3) ?_ fullShare (snd m (pX c) 3)) $$ [Hrx3]
  · rfl
  · iexact Hrx3
  iintro Hrx3
  iapply (step_loadG c fullShare (gam m c)) $$ [HG]
  · iexact HG
  iintro HG
  ihave Hoa3 := (BIBase.Entails.of_eq (any_open c (outM (qt c) 3))) $$ Hoa3
  icases Hoa3 with ⟨%X3, Hou3⟩
  iapply (step_load c (hr := fun _ => rfl) (M' := outM (qt c) 3) ?_ fullShare X3) $$ [Hou3]
  · exact off3_slice c 3
  · iexact Hou3
  iintro Hou3
  iapply (step_store c (hr := fun _ => rfl) (M' := outM (qt c) 3) ?_ X3 (res m c 3) ?_) $$ [Hou3]
  · exact off3_slice c 3
  · rfl
  · iexact Hou3
  iintro Hos3
  ihave Hos3 := (owns_halve c (outM (qt c) 3) (res m c 3)) $$ Hos3
  icases Hos3 with ⟨Hoh3, Hoi3⟩
  unfold run; rw [wp_ret]; imodintro
  iapply Hk $$ %_ %_ [HO HZ14 Hlo3 Hrx3 HG Hoh3 Hoi3]
  isplitl [HO]; · iexact HO
  isplitl [HZ14]; · iexact HZ14
  isplitl [Hlo3]; · iexact Hlo3
  isplitl [Hrx3]; · iexact Hrx3
  isplitl [HG]; · iexact HG
  isplitl [Hoh3]; · iexact Hoh3
  iexact Hoi3

set_option maxRecDepth 65536 in
theorem part14 (v2 v5 v11 v33 v35 v421 v422 : BitVec 32) {Q : _ → sProp (MT nD τ sig Unit (Elt F) ℕ UU ℕ)} :
    iprop(base m K c ∗ near c ∗ owns (c : Thread nD τ) (outM (qt c) 3) half1 (res m c 3) ∗ anyOf (nb 1 c) (outM (qt c) 3) ∗ OW c 13 ∗ tok c (.dma 18) 0 ∗ tok (nb 1 c) (.dma 22) 0 ∗ owns (c : Thread nD τ) (outM (qt c) 3) half2 (res m c 3) ∗ anyOf (nb 2 c) (outM (qt c) 3) ∗ tok c (.dma 26) 0 ∗ tok (nb 2 c) (.dma 30) 0)
      ⊢ iprop((∀ a, (crd c 18 ∗ crd c 26 ∗ OW c 15) -∗ Q a) -∗ run c (k0_part14 (Memref.whole main_arg0) h0 (Memref.whole cc0_stg0_0) h1 (Memref.whole cc0_stg1_0) h2 (Memref.whole cc0_scratch0) h3 (Memref.whole cc0_scratch1) h4 (Memref.whole cc0_scratch2) h5 cc0_scratch3 cc0_scratch4 cc0_scratch5 cc0_scratch6 cc0_scratch7 cc0_scratch8 cc0_scratch9 cc0_scratch10 cc0_scratch11 cc0_scratch12 cc0_scratch13 cc0_scratch14 c v2 v5 v11 v33 v35 v421 v422) Q) := by
  rw [k0_part14_eq_skeleton]
  simp only [k0_part14_skel, semSignalWord, semWaitWord, Prog.lift, Prog.bind_op, Prog.bind_ret, Prog.pure_eq_ret, BitVec.reduceToNat]
  iintro ⟨#Hb, #HHn, Hoh3, HNY3, HO, HT18, HR22, Hoi3, HNZ3, HT26, HR30⟩ Hk
  iapply (step_send m K c 1 18 22 (by decide) (by decide) 13 rfl (dev14_eq c) (src' := outM (qt c) 3) (dst' := outM (qt c) 3) ?_ ?_ ?_ ?_ half1 (res m c 3) rfl (.of_eq rfl) (.of_eq (pay_y m c 3))) $$ [Hoh3 HNY3 HO HT18 HR22]
  · exact off4_slice c 3
  · exact off4_slice c 3
  · rfl
  · rfl
  · isplitr; · iexact Hb
    isplitr; · iexact HHn
    isplitl [Hoh3]; · iexact Hoh3
    isplitl [HNY3]; · iexact HNY3
    isplitl [HO]; · iexact HO
    isplitl [HT18]; · iexact HT18
    iexact HR22
  iintro ⟨HC18, HO⟩
  iapply (step_send m K c 2 26 30 (by decide) (by decide) 14 rfl (dev15_eq c) (src' := outM (qt c) 3) (dst' := outM (qt c) 3) ?_ ?_ ?_ ?_ half2 (res m c 3) rfl (.of_eq rfl) (.of_eq (pay_z m c 3))) $$ [Hoi3 HNZ3 HO HT26 HR30]
  · exact off4_slice c 3
  · exact off4_slice c 3
  · rfl
  · rfl
  · isplitr; · iexact Hb
    isplitr; · iexact HHn
    isplitl [Hoi3]; · iexact Hoi3
    isplitl [HNZ3]; · iexact HNZ3
    isplitl [HO]; · iexact HO
    isplitl [HT26]; · iexact HT26
    iexact HR30
  iintro ⟨HC26, HO⟩
  unfold run; rw [wp_ret]; imodintro
  iapply Hk $$ %_ [HC18 HC26 HO]
  isplitl [HC18]; · iexact HC18
  isplitl [HC26]; · iexact HC26
  iexact HO

set_option maxRecDepth 65536 in
theorem part15 (v2 v5 v11 v34 v35 c256 : BitVec 32) {Q : _ → sProp (MT nD τ sig Unit (Elt F) ℕ UU ℕ)} :
    (Q ⟨⟩ : sProp 𝕄) ⊢ run c (k0_part15 (Memref.whole main_arg0) h0 (Memref.whole cc0_stg0_0) h1 (Memref.whole cc0_stg1_0) h2 (Memref.whole cc0_scratch0) h3 (Memref.whole cc0_scratch1) h4 (Memref.whole cc0_scratch2) h5 cc0_scratch3 cc0_scratch4 cc0_scratch5 cc0_scratch6 cc0_scratch7 cc0_scratch8 cc0_scratch9 cc0_scratch10 cc0_scratch11 cc0_scratch12 cc0_scratch13 cc0_scratch14 c v2 v5 v11 v34 v35 c256) Q := by
  rw [k0_part15_eq_skeleton]
  simp only [k0_part15_skel, run, wp_pure]
  iintro H; imodintro; iexact H

set_option maxRecDepth 65536 in
theorem part16 (v2 v5 v8 v10 v11 v35 : BitVec 32) {Q : _ → sProp (MT nD τ sig Unit (Elt F) ℕ UU ℕ)} :
    iprop(base m K c ∗ near c ∗ crd c 27 ∗ OW c 15 ∗ pos c (.dma 27) 0 ∗ anyOf (nb 1 c) (outM (qt (pZ c)) 0) ∗ tok c (.dma 31) 0 ∗ tok (nb 1 c) (.dma 33) 0 ∗ crd c 28 ∗ pos c (.dma 28) 0)
      ⊢ iprop(((pos c (.dma 27) 1 ∗ crd c 31 ∗ OW c 16 ∗ pos c (.dma 28) 1 ∗ owns (c : Thread nD τ) (outM (qt (pZ c)) 1) fullShare (res m (pZ c) 1)) -∗ Q ⟨⟩) -∗ run c (k0_part16 (Memref.whole main_arg0) h0 (Memref.whole cc0_stg0_0) h1 (Memref.whole cc0_stg1_0) h2 (Memref.whole cc0_scratch0) h3 (Memref.whole cc0_scratch1) h4 (Memref.whole cc0_scratch2) h5 cc0_scratch3 cc0_scratch4 cc0_scratch5 cc0_scratch6 cc0_scratch7 cc0_scratch8 cc0_scratch9 cc0_scratch10 cc0_scratch11 cc0_scratch12 cc0_scratch13 cc0_scratch14 c v2 v5 v8 v10 v11 v35) Q) := by
  rw [k0_part16_eq_skeleton]
  simp only [k0_part16_skel, semSignalWord, semWaitWord, Prog.lift, Prog.bind_op, Prog.bind_ret, Prog.pure_eq_ret, BitVec.reduceToNat]
  iintro ⟨#Hb, #HHn, HC27, HO, HP27, HNYF0, HT31, HR33, HC28, HP28⟩ Hk
  iapply (step_waitR m K c 27 (by decide) 15 (by decide +kernel) (owns (c : Thread nD τ) (outM (qt (pZ c)) 0) fullShare (res m (pZ c) 0)) rfl ?_ ?_) $$ [HC27 HO HP27]
  · rfl
  · rfl
  · isplitr; · iexact Hb
    isplitl [HC27]; · iexact HC27
    isplitl [HO]; · iexact HO
    iexact HP27
  iintro ⟨HO, HZ27, Hoz0⟩
  iapply (step_send m K c 1 31 33 (by decide) (by decide) 15 rfl (dev16_eq c) (src' := outM (qt (pZ c)) 0) (dst' := outM (qt (pZ c)) 0) ?_ ?_ ?_ ?_ fullShare (res m (pZ c) 0) rfl (.of_eq rfl) (.of_eq (pay_yf m c 0))) $$ [Hoz0 HNYF0 HO HT31 HR33]
  · exact off5z_slice c 0
  · exact off5z_slice c 0
  · rfl
  · rfl
  · isplitr; · iexact Hb
    isplitr; · iexact HHn
    isplitl [Hoz0]; · iexact Hoz0
    isplitl [HNYF0]; · iexact HNYF0
    isplitl [HO]; · iexact HO
    isplitl [HT31]; · iexact HT31
    iexact HR33
  iintro ⟨HC31, HO⟩
  iapply (step_waitR m K c 28 (by decide) 16 (by decide +kernel) (owns (c : Thread nD τ) (outM (qt (pZ c)) 1) fullShare (res m (pZ c) 1)) rfl ?_ ?_) $$ [HC28 HO HP28]
  · rfl
  · rfl
  · isplitr; · iexact Hb
    isplitl [HC28]; · iexact HC28
    isplitl [HO]; · iexact HO
    iexact HP28
  iintro ⟨HO, HZ28, Hoz1⟩
  unfold run; rw [wp_ret]; imodintro
  iapply Hk $$ [HZ27 HC31 HO HZ28 Hoz1]
  isplitl [HZ27]; · iexact HZ27
  isplitl [HC31]; · iexact HC31
  isplitl [HO]; · iexact HO
  isplitl [HZ28]; · iexact HZ28
  iexact Hoz1

set_option maxRecDepth 65536 in
theorem part17 (v2 v5 v8 v10 v11 v34 : BitVec 32) {Q : _ → sProp (MT nD τ sig Unit (Elt F) ℕ UU ℕ)} :
    iprop(base m K c ∗ near c ∗ owns (c : Thread nD τ) (outM (qt (pZ c)) 1) fullShare (res m (pZ c) 1) ∗ anyOf (nb 1 c) (outM (qt (pZ c)) 1) ∗ OW c 16 ∗ tok c (.dma 32) 0 ∗ tok (nb 1 c) (.dma 34) 0 ∗ crd c 21 ∗ pos c (.dma 21) 0)
      ⊢ iprop(((crd c 32 ∗ OW c 17 ∗ pos c (.dma 21) 1 ∗ owns (c : Thread nD τ) (outM (qt (pY c)) 2) fullShare (res m (pY c) 2)) -∗ Q ⟨⟩) -∗ run c (k0_part17 (Memref.whole main_arg0) h0 (Memref.whole cc0_stg0_0) h1 (Memref.whole cc0_stg1_0) h2 (Memref.whole cc0_scratch0) h3 (Memref.whole cc0_scratch1) h4 (Memref.whole cc0_scratch2) h5 cc0_scratch3 cc0_scratch4 cc0_scratch5 cc0_scratch6 cc0_scratch7 cc0_scratch8 cc0_scratch9 cc0_scratch10 cc0_scratch11 cc0_scratch12 cc0_scratch13 cc0_scratch14 c v2 v5 v8 v10 v11 v34) Q) := by
  rw [k0_part17_eq_skeleton]
  simp only [k0_part17_skel, semSignalWord, semWaitWord, Prog.lift, Prog.bind_op, Prog.bind_ret, Prog.pure_eq_ret, BitVec.reduceToNat]
  iintro ⟨#Hb, #HHn, Hoz1, HNYF1, HO, HT32, HR34, HC21, HP21⟩ Hk
  iapply (step_send m K c 1 32 34 (by decide) (by decide) 16 rfl (dev17_eq c) (src' := outM (qt (pZ c)) 1) (dst' := outM (qt (pZ c)) 1) ?_ ?_ ?_ ?_ fullShare (res m (pZ c) 1) rfl (.of_eq rfl) (.of_eq (pay_yf m c 1))) $$ [Hoz1 HNYF1 HO HT32 HR34]
  · exact off5z_slice c 1
  · exact off5z_slice c 1
  · rfl
  · rfl
  · isplitr; · iexact Hb
    isplitr; · iexact HHn
    isplitl [Hoz1]; · iexact Hoz1
    isplitl [HNYF1]; · iexact HNYF1
    isplitl [HO]; · iexact HO
    isplitl [HT32]; · iexact HT32
    iexact HR34
  iintro ⟨HC32, HO⟩
  iapply (step_waitR m K c 21 (by decide) 17 (by decide +kernel) (owns (c : Thread nD τ) (outM (qt (pY c)) 2) fullShare (res m (pY c) 2)) rfl ?_ ?_) $$ [HC21 HO HP21]
  · rfl
  · rfl
  · isplitr; · iexact Hb
    isplitl [HC21]; · iexact HC21
    isplitl [HO]; · iexact HO
    iexact HP21
  iintro ⟨HO, HZ21, Hoy2⟩
  unfold run; rw [wp_ret]; imodintro
  iapply Hk $$ [HC32 HO HZ21 Hoy2]
  isplitl [HC32]; · iexact HC32
  isplitl [HO]; · iexact HO
  isplitl [HZ21]; · iexact HZ21
  iexact Hoy2

set_option maxRecDepth 65536 in
theorem part18 (v2 v5 v8 v10 v11 v34 : BitVec 32) {Q : _ → sProp (MT nD τ sig Unit (Elt F) ℕ UU ℕ)} :
    iprop(base m K c ∗ near c ∗ owns (c : Thread nD τ) (outM (qt (pY c)) 2) fullShare (res m (pY c) 2) ∗ anyOf (nb 2 c) (outM (qt (pY c)) 2) ∗ OW c 17 ∗ tok c (.dma 35) 0 ∗ tok (nb 2 c) (.dma 37) 0 ∗ crd c 22 ∗ pos c (.dma 22) 0 ∗ anyOf (nb 2 c) (outM (qt (pY c)) 3) ∗ tok c (.dma 36) 0 ∗ tok (nb 2 c) (.dma 38) 0)
      ⊢ iprop((∀ a, ∀ b, (crd c 35 ∗ pos c (.dma 22) 1 ∗ crd c 36 ∗ OW c 19) -∗ Q ⟨a, b⟩) -∗ run c (k0_part18 (Memref.whole main_arg0) h0 (Memref.whole cc0_stg0_0) h1 (Memref.whole cc0_stg1_0) h2 (Memref.whole cc0_scratch0) h3 (Memref.whole cc0_scratch1) h4 (Memref.whole cc0_scratch2) h5 cc0_scratch3 cc0_scratch4 cc0_scratch5 cc0_scratch6 cc0_scratch7 cc0_scratch8 cc0_scratch9 cc0_scratch10 cc0_scratch11 cc0_scratch12 cc0_scratch13 cc0_scratch14 c v2 v5 v8 v10 v11 v34) Q) := by
  rw [k0_part18_eq_skeleton]
  simp only [k0_part18_skel, semSignalWord, semWaitWord, Prog.lift, Prog.bind_op, Prog.bind_ret, Prog.pure_eq_ret, BitVec.reduceToNat]
  iintro ⟨#Hb, #HHn, Hoy2, HNZF2, HO, HT35, HR37, HC22, HP22, HNZF3, HT36, HR38⟩ Hk
  iapply (step_send m K c 2 35 37 (by decide) (by decide) 17 rfl (dev18_eq c) (src' := outM (qt (pY c)) 2) (dst' := outM (qt (pY c)) 2) ?_ ?_ ?_ ?_ fullShare (res m (pY c) 2) rfl (.of_eq rfl) (.of_eq (pay_zf m c 2))) $$ [Hoy2 HNZF2 HO HT35 HR37]
  · exact off5y_slice c 2
  · exact off5y_slice c 2
  · rfl
  · rfl
  · isplitr; · iexact Hb
    isplitr; · iexact HHn
    isplitl [Hoy2]; · iexact Hoy2
    isplitl [HNZF2]; · iexact HNZF2
    isplitl [HO]; · iexact HO
    isplitl [HT35]; · iexact HT35
    iexact HR37
  iintro ⟨HC35, HO⟩
  iapply (step_waitR m K c 22 (by decide) 18 (by decide +kernel) (owns (c : Thread nD τ) (outM (qt (pY c)) 3) fullShare (res m (pY c) 3)) rfl ?_ ?_) $$ [HC22 HO HP22]
  · rfl
  · rfl
  · isplitr; · iexact Hb
    isplitl [HC22]; · iexact HC22
    isplitl [HO]; · iexact HO
    iexact HP22
  iintro ⟨HO, HZ22, Hoy3⟩
  iapply (step_send m K c 2 36 38 (by decide) (by decide) 18 rfl (dev19_eq c) (src' := outM (qt (pY c)) 3) (dst' := outM (qt (pY c)) 3) ?_ ?_ ?_ ?_ fullShare (res m (pY c) 3) rfl (.of_eq rfl) (.of_eq (pay_zf m c 3))) $$ [Hoy3 HNZF3 HO HT36 HR38]
  · exact off5y_slice c 3
  · exact off5y_slice c 3
  · rfl
  · rfl
  · isplitr; · iexact Hb
    isplitr; · iexact HHn
    isplitl [Hoy3]; · iexact Hoy3
    isplitl [HNZF3]; · iexact HNZF3
    isplitl [HO]; · iexact HO
    isplitl [HT36]; · iexact HT36
    iexact HR38
  iintro ⟨HC36, HO⟩
  unfold run; rw [wp_ret]; imodintro
  iapply Hk $$ %_ %_ [HC35 HZ22 HC36 HO]
  isplitl [HC35]; · iexact HC35
  isplitl [HZ22]; · iexact HZ22
  isplitl [HC36]; · iexact HC36
  iexact HO

set_option maxRecDepth 65536 in
theorem part19 (v2 v5 v8 v10 v11 v582 c0 : BitVec 32) {Q : _ → sProp (MT nD τ sig Unit (Elt F) ℕ UU ℕ)} :
    iprop(base m K c ∗ crd c 19 ∗ OW c 19 ∗ pos c (.dma 19) 0 ∗ crd c 20 ∗ pos c (.dma 20) 0 ∗ crd c 29 ∗ pos c (.dma 29) 0)
      ⊢ iprop((∀ a, ∀ b, (pos c (.dma 19) 1 ∗ owns (c : Thread nD τ) (outM (qt (pY c)) 0) fullShare (res m (pY c) 0) ∗ pos c (.dma 20) 1 ∗ owns (c : Thread nD τ) (outM (qt (pY c)) 1) fullShare (res m (pY c) 1) ∗ OW c 19 ∗ pos c (.dma 29) 1 ∗ owns (c : Thread nD τ) (outM (qt (pZ c)) 2) fullShare (res m (pZ c) 2)) -∗ Q ⟨a, b⟩) -∗ run c (k0_part19 (Memref.whole main_arg0) h0 (Memref.whole cc0_stg0_0) h1 (Memref.whole cc0_stg1_0) h2 (Memref.whole cc0_scratch0) h3 (Memref.whole cc0_scratch1) h4 (Memref.whole cc0_scratch2) h5 cc0_scratch3 cc0_scratch4 cc0_scratch5 cc0_scratch6 cc0_scratch7 cc0_scratch8 cc0_scratch9 cc0_scratch10 cc0_scratch11 cc0_scratch12 cc0_scratch13 cc0_scratch14 c v2 v5 v8 v10 v11 v582 c0) Q) := by
  rw [k0_part19_eq_skeleton]
  simp only [k0_part19_skel, semSignalWord, semWaitWord, Prog.lift, Prog.bind_op, Prog.bind_ret, Prog.pure_eq_ret, BitVec.reduceToNat]
  iintro ⟨#Hb, HC19, HO, HP19, HC20, HP20, HC29, HP29⟩ Hk
  iapply (step_waitR m K c 19 (by decide) 19 (by decide +kernel) (owns (c : Thread nD τ) (outM (qt (pY c)) 0) fullShare (res m (pY c) 0)) rfl ?_ ?_) $$ [HC19 HO HP19]
  · rfl
  · rfl
  · isplitr; · iexact Hb
    isplitl [HC19]; · iexact HC19
    isplitl [HO]; · iexact HO
    iexact HP19
  iintro ⟨HO, HZ19, Hoy0⟩
  iapply (step_waitR m K c 20 (by decide) 19 (by decide +kernel) (owns (c : Thread nD τ) (outM (qt (pY c)) 1) fullShare (res m (pY c) 1)) rfl ?_ ?_) $$ [HC20 HO HP20]
  · rfl
  · rfl
  · isplitr; · iexact Hb
    isplitl [HC20]; · iexact HC20
    isplitl [HO]; · iexact HO
    iexact HP20
  iintro ⟨HO, HZ20, Hoy1⟩
  iapply (step_waitR m K c 29 (by decide) 19 (by decide +kernel) (owns (c : Thread nD τ) (outM (qt (pZ c)) 2) fullShare (res m (pZ c) 2)) rfl ?_ ?_) $$ [HC29 HO HP29]
  · rfl
  · rfl
  · isplitr; · iexact Hb
    isplitl [HC29]; · iexact HC29
    isplitl [HO]; · iexact HO
    iexact HP29
  iintro ⟨HO, HZ29, Hoz2⟩
  unfold run; rw [wp_ret]; imodintro
  iapply Hk $$ %_ %_ [HZ19 Hoy0 HZ20 Hoy1 HO HZ29 Hoz2]
  isplitl [HZ19]; · iexact HZ19
  isplitl [Hoy0]; · iexact Hoy0
  isplitl [HZ20]; · iexact HZ20
  isplitl [Hoy1]; · iexact Hoy1
  isplitl [HO]; · iexact HO
  isplitl [HZ29]; · iexact HZ29
  iexact Hoz2

set_option maxRecDepth 65536 in
theorem part20 (v2 v8 v10 v11 v36 v613 v614 : BitVec 32) {Q : _ → sProp (MT nD τ sig Unit (Elt F) ℕ UU ℕ)} :
    iprop(base m K c ∗ crd c 30 ∗ OW c 19 ∗ pos c (.dma 30) 0 ∗ crd c 33 ∗ pos c (.dma 33) 0)
      ⊢ iprop(((pos c (.dma 30) 1 ∗ owns (c : Thread nD τ) (outM (qt (pZ c)) 3) fullShare (res m (pZ c) 3) ∗ OW c 19 ∗ pos c (.dma 33) 1 ∗ owns (c : Thread nD τ) (outM (qt (pD c)) 0) fullShare (res m (pD c) 0)) -∗ Q ⟨⟩) -∗ run c (k0_part20 (Memref.whole main_arg0) h0 (Memref.whole cc0_stg0_0) h1 (Memref.whole cc0_stg1_0) h2 (Memref.whole cc0_scratch0) h3 (Memref.whole cc0_scratch1) h4 (Memref.whole cc0_scratch2) h5 cc0_scratch3 cc0_scratch4 cc0_scratch5 cc0_scratch6 cc0_scratch7 cc0_scratch8 cc0_scratch9 cc0_scratch10 cc0_scratch11 cc0_scratch12 cc0_scratch13 cc0_scratch14 c v2 v8 v10 v11 v36 v613 v614) Q) := by
  rw [k0_part20_eq_skeleton]
  simp only [k0_part20_skel, semSignalWord, semWaitWord, Prog.lift, Prog.bind_op, Prog.bind_ret, Prog.pure_eq_ret, BitVec.reduceToNat]
  iintro ⟨#Hb, HC30, HO, HP30, HC33, HP33⟩ Hk
  iapply (step_waitR m K c 30 (by decide) 19 (by decide +kernel) (owns (c : Thread nD τ) (outM (qt (pZ c)) 3) fullShare (res m (pZ c) 3)) rfl ?_ ?_) $$ [HC30 HO HP30]
  · rfl
  · rfl
  · isplitr; · iexact Hb
    isplitl [HC30]; · iexact HC30
    isplitl [HO]; · iexact HO
    iexact HP30
  iintro ⟨HO, HZ30, Hoz3⟩
  iapply (step_waitR m K c 33 (by decide) 19 (by decide +kernel) (owns (c : Thread nD τ) (outM (qt (pD c)) 0) fullShare (res m (pD c) 0)) rfl ?_ ?_) $$ [HC33 HO HP33]
  · rfl
  · rfl
  · isplitr; · iexact Hb
    isplitl [HC33]; · iexact HC33
    isplitl [HO]; · iexact HO
    iexact HP33
  iintro ⟨HO, HZ33, Hod0⟩
  unfold run; rw [wp_ret]; imodintro
  iapply Hk $$ [HZ30 Hoz3 HO HZ33 Hod0]
  isplitl [HZ30]; · iexact HZ30
  isplitl [Hoz3]; · iexact Hoz3
  isplitl [HO]; · iexact HO
  isplitl [HZ33]; · iexact HZ33
  iexact Hod0

set_option maxRecDepth 65536 in
theorem part21 (v2 v5 v11 v36 : BitVec 32) {Q : _ → sProp (MT nD τ sig Unit (Elt F) ℕ UU ℕ)} :
    iprop(base m K c ∗ crd c 34 ∗ OW c 19 ∗ pos c (.dma 34) 0 ∗ crd c 37 ∗ pos c (.dma 37) 0 ∗ crd c 38 ∗ pos c (.dma 38) 0)
      ⊢ iprop(((pos c (.dma 34) 1 ∗ owns (c : Thread nD τ) (outM (qt (pD c)) 1) fullShare (res m (pD c) 1) ∗ pos c (.dma 37) 1 ∗ owns (c : Thread nD τ) (outM (qt (pD c)) 2) fullShare (res m (pD c) 2) ∗ OW c 19 ∗ pos c (.dma 38) 1 ∗ owns (c : Thread nD τ) (outM (qt (pD c)) 3) fullShare (res m (pD c) 3)) -∗ Q ⟨⟩) -∗ run c (k0_part21 (Memref.whole main_arg0) h0 (Memref.whole cc0_stg0_0) h1 (Memref.whole cc0_stg1_0) h2 (Memref.whole cc0_scratch0) h3 (Memref.whole cc0_scratch1) h4 (Memref.whole cc0_scratch2) h5 cc0_scratch3 cc0_scratch4 cc0_scratch5 cc0_scratch6 cc0_scratch7 cc0_scratch8 cc0_scratch9 cc0_scratch10 cc0_scratch11 cc0_scratch12 cc0_scratch13 cc0_scratch14 c v2 v5 v11 v36) Q) := by
  rw [k0_part21_eq_skeleton]
  simp only [k0_part21_skel, semSignalWord, semWaitWord, Prog.lift, Prog.bind_op, Prog.bind_ret, Prog.pure_eq_ret, BitVec.reduceToNat]
  iintro ⟨#Hb, HC34, HO, HP34, HC37, HP37, HC38, HP38⟩ Hk
  iapply (step_waitR m K c 34 (by decide) 19 (by decide +kernel) (owns (c : Thread nD τ) (outM (qt (pD c)) 1) fullShare (res m (pD c) 1)) rfl ?_ ?_) $$ [HC34 HO HP34]
  · rfl
  · rfl
  · isplitr; · iexact Hb
    isplitl [HC34]; · iexact HC34
    isplitl [HO]; · iexact HO
    iexact HP34
  iintro ⟨HO, HZ34, Hod1⟩
  iapply (step_waitR m K c 37 (by decide) 19 (by decide +kernel) (owns (c : Thread nD τ) (outM (qt (pD c)) 2) fullShare (res m (pD c) 2)) rfl ?_ ?_) $$ [HC37 HO HP37]
  · rfl
  · rfl
  · isplitr; · iexact Hb
    isplitl [HC37]; · iexact HC37
    isplitl [HO]; · iexact HO
    iexact HP37
  iintro ⟨HO, HZ37, Hod2⟩
  iapply (step_waitR m K c 38 (by decide) 19 (by decide +kernel) (owns (c : Thread nD τ) (outM (qt (pD c)) 3) fullShare (res m (pD c) 3)) rfl ?_ ?_) $$ [HC38 HO HP38]
  · rfl
  · rfl
  · isplitr; · iexact Hb
    isplitl [HC38]; · iexact HC38
    isplitl [HO]; · iexact HO
    iexact HP38
  iintro ⟨HO, HZ38, Hod3⟩
  unfold run; rw [wp_ret]; imodintro
  iapply Hk $$ [HZ34 Hod1 HZ37 Hod2 HO HZ38 Hod3]
  isplitl [HZ34]; · iexact HZ34
  isplitl [Hod1]; · iexact Hod1
  isplitl [HZ37]; · iexact HZ37
  isplitl [Hod2]; · iexact Hod2
  isplitl [HO]; · iexact HO
  isplitl [HZ38]; · iexact HZ38
  iexact Hod3

set_option maxRecDepth 65536 in
theorem part22 {Q : _ → sProp (MT nD τ sig Unit (Elt F) ℕ UU ℕ)} :
    iprop(base m K c ∗ crd c 7 ∗ OW c 19 ∗ pos c (.dma 7) 0 ∗ crd c 15 ∗ pos c (.dma 15) 0 ∗ crd c 23 ∗ pos c (.dma 23) 0 ∗ crd c 8 ∗ pos c (.dma 8) 0 ∗ crd c 16 ∗ pos c (.dma 16) 0)
      ⊢ iprop(((pos c (.dma 7) 1 ∗ owns (c : Thread nD τ) sndM fullShare (snd m c 0) ∗ pos c (.dma 15) 1 ∗ owns (c : Thread nD τ) (outM (qt c) 0) half1 (res m c 0) ∗ pos c (.dma 23) 1 ∗ owns (c : Thread nD τ) (outM (qt c) 0) half2 (res m c 0) ∗ pos c (.dma 8) 1 ∗ owns (c : Thread nD τ) (pOth c 1) fullShare (snd m c 1) ∗ OW c 19 ∗ pos c (.dma 16) 1 ∗ owns (c : Thread nD τ) (outM (qt c) 1) half1 (res m c 1)) -∗ Q ⟨⟩) -∗ run c (k0_part22 (Memref.whole main_arg0) h0 (Memref.whole cc0_stg0_0) h1 (Memref.whole cc0_stg1_0) h2 (Memref.whole cc0_scratch0) h3 (Memref.whole cc0_scratch1) h4 (Memref.whole cc0_scratch2) h5 cc0_scratch3 cc0_scratch4 cc0_scratch5 cc0_scratch6 cc0_scratch7 cc0_scratch8 cc0_scratch9 cc0_scratch10 cc0_scratch11 cc0_scratch12 cc0_scratch13 cc0_scratch14 c) Q) := by
  rw [k0_part22_eq_skeleton]
  simp only [k0_part22_skel, semSignalWord, semWaitWord, Prog.lift, Prog.bind_op, Prog.bind_ret, Prog.pure_eq_ret, BitVec.reduceToNat]
  iintro ⟨#Hb, HC7, HO, HP7, HC15, HP15, HC23, HP23, HC8, HP8, HC16, HP16⟩ Hk
  iapply (step_waitR m K c 7 (by decide) 19 (by decide +kernel) (owns (c : Thread nD τ) sndM fullShare (snd m c 0)) rfl ?_ ?_) $$ [HC7 HO HP7]
  · rfl
  · rfl
  · isplitr; · iexact Hb
    isplitl [HC7]; · iexact HC7
    isplitl [HO]; · iexact HO
    iexact HP7
  iintro ⟨HO, HZ7, Hsd⟩
  iapply (step_waitR m K c 15 (by decide) 19 (by decide +kernel) (owns (c : Thread nD τ) (outM (qt c) 0) half1 (res m c 0)) rfl ?_ ?_) $$ [HC15 HO HP15]
  · rfl
  · rfl
  · isplitr; · iexact Hb
    isplitl [HC15]; · iexact HC15
    isplitl [HO]; · iexact HO
    iexact HP15
  iintro ⟨HO, HZ15, Hoh0⟩
  iapply (step_waitR m K c 23 (by decide) 19 (by decide +kernel) (owns (c : Thread nD τ) (outM (qt c) 0) half2 (res m c 0)) rfl ?_ ?_) $$ [HC23 HO HP23]
  · rfl
  · rfl
  · isplitr; · iexact Hb
    isplitl [HC23]; · iexact HC23
    isplitl [HO]; · iexact HO
    iexact HP23
  iintro ⟨HO, HZ23, Hoi0⟩
  iapply (step_waitR m K c 8 (by decide) 19 (by decide +kernel) (owns (c : Thread nD τ) (pOth c 1) fullShare (snd m c 1)) rfl ?_ ?_) $$ [HC8 HO HP8]
  · rfl
  · rfl
  · isplitr; · iexact Hb
    isplitl [HC8]; · iexact HC8
    isplitl [HO]; · iexact HO
    iexact HP8
  iintro ⟨HO, HZ8, Hsx1⟩
  iapply (step_waitR m K c 16 (by decide) 19 (by decide +kernel) (owns (c : Thread nD τ) (outM (qt c) 1) half1 (res m c 1)) rfl ?_ ?_) $$ [HC16 HO HP16]
  · rfl
  · rfl
  · isplitr; · iexact Hb
    isplitl [HC16]; · iexact HC16
    isplitl [HO]; · iexact HO
    iexact HP16
  iintro ⟨HO, HZ16, Hoh1⟩
  unfold run; rw [wp_ret]; imodintro
  iapply Hk $$ [HZ7 Hsd HZ15 Hoh0 HZ23 Hoi0 HZ8 Hsx1 HO HZ16 Hoh1]
  isplitl [HZ7]; · iexact HZ7
  isplitl [Hsd]; · iexact Hsd
  isplitl [HZ15]; · iexact HZ15
  isplitl [Hoh0]; · iexact Hoh0
  isplitl [HZ23]; · iexact HZ23
  isplitl [Hoi0]; · iexact Hoi0
  isplitl [HZ8]; · iexact HZ8
  isplitl [Hsx1]; · iexact Hsx1
  isplitl [HO]; · iexact HO
  isplitl [HZ16]; · iexact HZ16
  iexact Hoh1

set_option maxRecDepth 65536 in
theorem part23 {Q : _ → sProp (MT nD τ sig Unit (Elt F) ℕ UU ℕ)} :
    iprop(base m K c ∗ crd c 24 ∗ OW c 19 ∗ pos c (.dma 24) 0 ∗ crd c 9 ∗ pos c (.dma 9) 0 ∗ crd c 17 ∗ pos c (.dma 17) 0 ∗ crd c 25 ∗ pos c (.dma 25) 0 ∗ crd c 10 ∗ pos c (.dma 10) 0 ∗ crd c 18 ∗ pos c (.dma 18) 0)
      ⊢ iprop(((pos c (.dma 24) 1 ∗ owns (c : Thread nD τ) (outM (qt c) 1) half2 (res m c 1) ∗ pos c (.dma 9) 1 ∗ owns (c : Thread nD τ) (pOth c 2) fullShare (snd m c 2) ∗ pos c (.dma 17) 1 ∗ owns (c : Thread nD τ) (outM (qt c) 2) half1 (res m c 2) ∗ pos c (.dma 25) 1 ∗ owns (c : Thread nD τ) (outM (qt c) 2) half2 (res m c 2) ∗ pos c (.dma 10) 1 ∗ owns (c : Thread nD τ) (pOth c 3) fullShare (snd m c 3) ∗ OW c 19 ∗ pos c (.dma 18) 1 ∗ owns (c : Thread nD τ) (outM (qt c) 3) half1 (res m c 3)) -∗ Q ⟨⟩) -∗ run c (k0_part23 (Memref.whole main_arg0) h0 (Memref.whole cc0_stg0_0) h1 (Memref.whole cc0_stg1_0) h2 (Memref.whole cc0_scratch0) h3 (Memref.whole cc0_scratch1) h4 (Memref.whole cc0_scratch2) h5 cc0_scratch3 cc0_scratch4 cc0_scratch5 cc0_scratch6 cc0_scratch7 cc0_scratch8 cc0_scratch9 cc0_scratch10 cc0_scratch11 cc0_scratch12 cc0_scratch13 cc0_scratch14 c) Q) := by
  rw [k0_part23_eq_skeleton]
  simp only [k0_part23_skel, semSignalWord, semWaitWord, Prog.lift, Prog.bind_op, Prog.bind_ret, Prog.pure_eq_ret, BitVec.reduceToNat]
  iintro ⟨#Hb, HC24, HO, HP24, HC9, HP9, HC17, HP17, HC25, HP25, HC10, HP10, HC18, HP18⟩ Hk
  iapply (step_waitR m K c 24 (by decide) 19 (by decide +kernel) (owns (c : Thread nD τ) (outM (qt c) 1) half2 (res m c 1)) rfl ?_ ?_) $$ [HC24 HO HP24]
  · rfl
  · rfl
  · isplitr; · iexact Hb
    isplitl [HC24]; · iexact HC24
    isplitl [HO]; · iexact HO
    iexact HP24
  iintro ⟨HO, HZ24, Hoi1⟩
  iapply (step_waitR m K c 9 (by decide) 19 (by decide +kernel) (owns (c : Thread nD τ) (pOth c 2) fullShare (snd m c 2)) rfl ?_ ?_) $$ [HC9 HO HP9]
  · rfl
  · rfl
  · isplitr; · iexact Hb
    isplitl [HC9]; · iexact HC9
    isplitl [HO]; · iexact HO
    iexact HP9
  iintro ⟨HO, HZ9, Hsx2⟩
  iapply (step_waitR m K c 17 (by decide) 19 (by decide +kernel) (owns (c : Thread nD τ) (outM (qt c) 2) half1 (res m c 2)) rfl ?_ ?_) $$ [HC17 HO HP17]
  · rfl
  · rfl
  · isplitr; · iexact Hb
    isplitl [HC17]; · iexact HC17
    isplitl [HO]; · iexact HO
    iexact HP17
  iintro ⟨HO, HZ17, Hoh2⟩
  iapply (step_waitR m K c 25 (by decide) 19 (by decide +kernel) (owns (c : Thread nD τ) (outM (qt c) 2) half2 (res m c 2)) rfl ?_ ?_) $$ [HC25 HO HP25]
  · rfl
  · rfl
  · isplitr; · iexact Hb
    isplitl [HC25]; · iexact HC25
    isplitl [HO]; · iexact HO
    iexact HP25
  iintro ⟨HO, HZ25, Hoi2⟩
  iapply (step_waitR m K c 10 (by decide) 19 (by decide +kernel) (owns (c : Thread nD τ) (pOth c 3) fullShare (snd m c 3)) rfl ?_ ?_) $$ [HC10 HO HP10]
  · rfl
  · rfl
  · isplitr; · iexact Hb
    isplitl [HC10]; · iexact HC10
    isplitl [HO]; · iexact HO
    iexact HP10
  iintro ⟨HO, HZ10, Hsx3⟩
  iapply (step_waitR m K c 18 (by decide) 19 (by decide +kernel) (owns (c : Thread nD τ) (outM (qt c) 3) half1 (res m c 3)) rfl ?_ ?_) $$ [HC18 HO HP18]
  · rfl
  · rfl
  · isplitr; · iexact Hb
    isplitl [HC18]; · iexact HC18
    isplitl [HO]; · iexact HO
    iexact HP18
  iintro ⟨HO, HZ18, Hoh3⟩
  unfold run; rw [wp_ret]; imodintro
  iapply Hk $$ [HZ24 Hoi1 HZ9 Hsx2 HZ17 Hoh2 HZ25 Hoi2 HZ10 Hsx3 HO HZ18 Hoh3]
  isplitl [HZ24]; · iexact HZ24
  isplitl [Hoi1]; · iexact Hoi1
  isplitl [HZ9]; · iexact HZ9
  isplitl [Hsx2]; · iexact Hsx2
  isplitl [HZ17]; · iexact HZ17
  isplitl [Hoh2]; · iexact Hoh2
  isplitl [HZ25]; · iexact HZ25
  isplitl [Hoi2]; · iexact Hoi2
  isplitl [HZ10]; · iexact HZ10
  isplitl [Hsx3]; · iexact Hsx3
  isplitl [HO]; · iexact HO
  isplitl [HZ18]; · iexact HZ18
  iexact Hoh3

end Cert.Talk

end
-- ==== Proof.Body.lean ====
/-
  The whole body, run once on one device: from the pieces, tokens, positions and credits it starts with to what it leaves.
-/
module

public import proofs.«01_k».proof.Proof.Parts

@[expose] public section

noncomputable section

namespace Cert.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- What a device's body starts with. -/
def start (c : Dev nD) : sProp 𝕄 :=
  iprop(owns (c : Thread nD τ) (pOth c 0) fullShare (snd m c 0)
    ∗ anyOf c sndM
    ∗ tok c (.dma 6) 0
    ∗ owns (c : Thread nD τ) (pOwn c 0) fullShare (own m c 0)
    ∗ anyOf c (locM 0)
    ∗ tok c (.dma 2) 0
    ∗ owns (c : Thread nD τ) (pOwn c 1) fullShare (own m c 1)
    ∗ anyOf c (locM 1)
    ∗ tok c (.dma 3) 0
    ∗ owns (c : Thread nD τ) (pOwn c 2) fullShare (own m c 2)
    ∗ anyOf c (locM 2)
    ∗ tok c (.dma 4) 0
    ∗ owns (c : Thread nD τ) (pOwn c 3) fullShare (own m c 3)
    ∗ anyOf c (locM 3)
    ∗ tok c (.dma 5) 0
    ∗ lend c 0
    ∗ OW c 0
    ∗ tok (nb 0 c) barL 0
    ∗ lend c 1
    ∗ tok (nb 1 c) barL 1
    ∗ lend c 2
    ∗ tok (nb 2 c) barL 2
    ∗ cred (tallyAt (cell c barL) () 3)
    ∗ pos c barL 0
    ∗ pos c (.dma 6) 0
    ∗ tok c (.dma 7) 0
    ∗ tok (nb 0 c) (.dma 11) 0
    ∗ owns (c : Thread nD τ) (pOth c 1) fullShare (snd m c 1)
    ∗ tok c (.dma 8) 0
    ∗ tok (nb 0 c) (.dma 12) 0
    ∗ owns (c : Thread nD τ) (pOth c 2) fullShare (snd m c 2)
    ∗ tok c (.dma 9) 0
    ∗ tok (nb 0 c) (.dma 13) 0
    ∗ owns (c : Thread nD τ) (pOth c 3) fullShare (snd m c 3)
    ∗ tok c (.dma 10) 0
    ∗ tok (nb 0 c) (.dma 14) 0
    ∗ pos c (.dma 2) 0
    ∗ crd c 11
    ∗ pos c (.dma 11) 0
    ∗ owns (c : Thread nD τ) (Memref.whole cc0_stg0_0) fullShare (gam m c)
    ∗ anyOf c (outM (qt c) 0)
    ∗ tok c (.dma 15) 0
    ∗ tok (nb 1 c) (.dma 19) 0
    ∗ tok c (.dma 23) 0
    ∗ tok (nb 2 c) (.dma 27) 0
    ∗ pos c (.dma 3) 0
    ∗ crd c 12
    ∗ pos c (.dma 12) 0
    ∗ anyOf c (outM (qt c) 1)
    ∗ tok c (.dma 16) 0
    ∗ tok (nb 1 c) (.dma 20) 0
    ∗ tok c (.dma 24) 0
    ∗ tok (nb 2 c) (.dma 28) 0
    ∗ pos c (.dma 4) 0
    ∗ crd c 13
    ∗ pos c (.dma 13) 0
    ∗ anyOf c (outM (qt c) 2)
    ∗ tok c (.dma 17) 0
    ∗ tok (nb 1 c) (.dma 21) 0
    ∗ tok c (.dma 25) 0
    ∗ tok (nb 2 c) (.dma 29) 0
    ∗ pos c (.dma 5) 0
    ∗ crd c 14
    ∗ pos c (.dma 14) 0
    ∗ anyOf c (outM (qt c) 3)
    ∗ tok c (.dma 18) 0
    ∗ tok (nb 1 c) (.dma 22) 0
    ∗ tok c (.dma 26) 0
    ∗ tok (nb 2 c) (.dma 30) 0
    ∗ crd c 27
    ∗ pos c (.dma 27) 0
    ∗ tok c (.dma 31) 0
    ∗ tok (nb 1 c) (.dma 33) 0
    ∗ crd c 28
    ∗ pos c (.dma 28) 0
    ∗ tok c (.dma 32) 0
    ∗ tok (nb 1 c) (.dma 34) 0
    ∗ crd c 21
    ∗ pos c (.dma 21) 0
    ∗ tok c (.dma 35) 0
    ∗ tok (nb 2 c) (.dma 37) 0
    ∗ crd c 22
    ∗ pos c (.dma 22) 0
    ∗ tok c (.dma 36) 0
    ∗ tok (nb 2 c) (.dma 38) 0
    ∗ crd c 19
    ∗ pos c (.dma 19) 0
    ∗ crd c 20
    ∗ pos c (.dma 20) 0
    ∗ crd c 29
    ∗ pos c (.dma 29) 0
    ∗ crd c 30
    ∗ pos c (.dma 30) 0
    ∗ crd c 33
    ∗ pos c (.dma 33) 0
    ∗ crd c 34
    ∗ pos c (.dma 34) 0
    ∗ crd c 37
    ∗ pos c (.dma 37) 0
    ∗ crd c 38
    ∗ pos c (.dma 38) 0
    ∗ pos c (.dma 7) 0
    ∗ pos c (.dma 15) 0
    ∗ pos c (.dma 23) 0
    ∗ pos c (.dma 8) 0
    ∗ pos c (.dma 16) 0
    ∗ pos c (.dma 24) 0
    ∗ pos c (.dma 9) 0
    ∗ pos c (.dma 17) 0
    ∗ pos c (.dma 25) 0
    ∗ pos c (.dma 10) 0
    ∗ pos c (.dma 18) 0
    ∗ pos c (.dma 26) 0
    ∗ pos c (.dma 31) 0
    ∗ pos c (.dma 32) 0
    ∗ pos c (.dma 35) 0
    ∗ pos c (.dma 36) 0)
/-- What a device's body leaves. -/
def finish (c : Dev nD) : sProp 𝕄 :=
  iprop(pos c barL 1
    ∗ pos c (.dma 6) 1
    ∗ owns (c : Thread nD τ) (pOth c 0) fullShare (snd m c 0)
    ∗ pos c (.dma 2) 1
    ∗ owns (c : Thread nD τ) (pOwn c 0) fullShare (own m c 0)
    ∗ pos c (.dma 11) 1
    ∗ owns (c : Thread nD τ) (locM 0) fullShare (own m c 0)
    ∗ owns (c : Thread nD τ) (rcvM 0) fullShare (snd m (pX c) 0)
    ∗ pos c (.dma 3) 1
    ∗ owns (c : Thread nD τ) (pOwn c 1) fullShare (own m c 1)
    ∗ pos c (.dma 12) 1
    ∗ owns (c : Thread nD τ) (locM 1) fullShare (own m c 1)
    ∗ owns (c : Thread nD τ) (rcvM 1) fullShare (snd m (pX c) 1)
    ∗ pos c (.dma 4) 1
    ∗ owns (c : Thread nD τ) (pOwn c 2) fullShare (own m c 2)
    ∗ pos c (.dma 13) 1
    ∗ owns (c : Thread nD τ) (locM 2) fullShare (own m c 2)
    ∗ owns (c : Thread nD τ) (rcvM 2) fullShare (snd m (pX c) 2)
    ∗ pos c (.dma 5) 1
    ∗ owns (c : Thread nD τ) (pOwn c 3) fullShare (own m c 3)
    ∗ pos c (.dma 14) 1
    ∗ owns (c : Thread nD τ) (locM 3) fullShare (own m c 3)
    ∗ owns (c : Thread nD τ) (rcvM 3) fullShare (snd m (pX c) 3)
    ∗ owns (c : Thread nD τ) (Memref.whole cc0_stg0_0) fullShare (gam m c)
    ∗ pos c (.dma 27) 1
    ∗ pos c (.dma 28) 1
    ∗ pos c (.dma 21) 1
    ∗ pos c (.dma 22) 1
    ∗ pos c (.dma 19) 1
    ∗ owns (c : Thread nD τ) (outM (qt (pY c)) 0) fullShare (res m (pY c) 0)
    ∗ pos c (.dma 20) 1
    ∗ owns (c : Thread nD τ) (outM (qt (pY c)) 1) fullShare (res m (pY c) 1)
    ∗ pos c (.dma 29) 1
    ∗ owns (c : Thread nD τ) (outM (qt (pZ c)) 2) fullShare (res m (pZ c) 2)
    ∗ pos c (.dma 30) 1
    ∗ owns (c : Thread nD τ) (outM (qt (pZ c)) 3) fullShare (res m (pZ c) 3)
    ∗ pos c (.dma 33) 1
    ∗ owns (c : Thread nD τ) (outM (qt (pD c)) 0) fullShare (res m (pD c) 0)
    ∗ pos c (.dma 34) 1
    ∗ owns (c : Thread nD τ) (outM (qt (pD c)) 1) fullShare (res m (pD c) 1)
    ∗ pos c (.dma 37) 1
    ∗ owns (c : Thread nD τ) (outM (qt (pD c)) 2) fullShare (res m (pD c) 2)
    ∗ pos c (.dma 38) 1
    ∗ owns (c : Thread nD τ) (outM (qt (pD c)) 3) fullShare (res m (pD c) 3)
    ∗ pos c (.dma 7) 1
    ∗ owns (c : Thread nD τ) sndM fullShare (snd m c 0)
    ∗ pos c (.dma 15) 1
    ∗ owns (c : Thread nD τ) (outM (qt c) 0) half1 (res m c 0)
    ∗ pos c (.dma 23) 1
    ∗ owns (c : Thread nD τ) (outM (qt c) 0) half2 (res m c 0)
    ∗ pos c (.dma 8) 1
    ∗ owns (c : Thread nD τ) (pOth c 1) fullShare (snd m c 1)
    ∗ pos c (.dma 16) 1
    ∗ owns (c : Thread nD τ) (outM (qt c) 1) half1 (res m c 1)
    ∗ pos c (.dma 24) 1
    ∗ owns (c : Thread nD τ) (outM (qt c) 1) half2 (res m c 1)
    ∗ pos c (.dma 9) 1
    ∗ owns (c : Thread nD τ) (pOth c 2) fullShare (snd m c 2)
    ∗ pos c (.dma 17) 1
    ∗ owns (c : Thread nD τ) (outM (qt c) 2) half1 (res m c 2)
    ∗ pos c (.dma 25) 1
    ∗ owns (c : Thread nD τ) (outM (qt c) 2) half2 (res m c 2)
    ∗ pos c (.dma 10) 1
    ∗ owns (c : Thread nD τ) (pOth c 3) fullShare (snd m c 3)
    ∗ pos c (.dma 18) 1
    ∗ owns (c : Thread nD τ) (outM (qt c) 3) half1 (res m c 3)
    ∗ pos c (.dma 26) 1
    ∗ owns (c : Thread nD τ) (outM (qt c) 3) half2 (res m c 3)
    ∗ pos c (.dma 31) 1
    ∗ owns (c : Thread nD τ) (outM (qt (pZ c)) 0) fullShare (res m (pZ c) 0)
    ∗ pos c (.dma 32) 1
    ∗ owns (c : Thread nD τ) (outM (qt (pZ c)) 1) fullShare (res m (pZ c) 1)
    ∗ pos c (.dma 35) 1
    ∗ owns (c : Thread nD τ) (outM (qt (pY c)) 2) fullShare (res m (pY c) 2)
    ∗ OW c 19
    ∗ pos c (.dma 36) 1
    ∗ owns (c : Thread nD τ) (outM (qt (pY c)) 3) fullShare (res m (pY c) 3))

variable (K : GSem nD τ sig → ℕ) (c : Dev nD)
  (h0 : (Memref.whole main_arg0).IsWhole) (h1 : (Memref.whole cc0_stg0_0).IsWhole) (h2 : (Memref.whole cc0_stg1_0).IsWhole)
  (h3 : (Memref.whole cc0_scratch0).IsWhole) (h4 : (Memref.whole cc0_scratch1).IsWhole) (h5 : (Memref.whole cc0_scratch2).IsWhole)

set_option maxRecDepth 65536 in
theorem part1 {Q : _ → sProp (MT nD τ sig Unit (Elt F) ℕ UU ℕ)} :
    (iprop(∀ v2, ∀ v5, ∀ v8, ∀ v9, ∀ v10, ∀ v11, ∀ v33, ∀ v34, ∀ c1, Q ⟨c, v2, v5, v8, v9, v10, v11, v33, v34, c1⟩) : sProp 𝕄)
      ⊢ run c (k0_part1 (Memref.whole main_arg0) h0 (Memref.whole cc0_stg0_0) h1 (Memref.whole cc0_stg1_0) h2 (Memref.whole cc0_scratch0) h3 (Memref.whole cc0_scratch1) h4 (Memref.whole cc0_scratch2) h5 cc0_scratch3 cc0_scratch4 cc0_scratch5 cc0_scratch6 cc0_scratch7 cc0_scratch8 cc0_scratch9 cc0_scratch10 cc0_scratch11 cc0_scratch12 cc0_scratch13 cc0_scratch14) Q := by
  rw [k0_part1_eq_skeleton]
  simp only [k0_part1_skel, run, Prog.lift, Prog.bind_op, Prog.bind_ret, Prog.pure_eq_ret, wp_deviceId, wp_ret]
  iintro H; imodintro
  iapply H $$ %_ %_ %_ %_ %_ %_ %_ %_ %_

set_option maxRecDepth 65536 in
set_option maxHeartbeats 4000000 in
theorem body_run {Q : PUnit → sProp (MT nD τ sig Unit (Elt F) ℕ UU ℕ)} :
    iprop(base m K c ∗ start m c) ⊢ iprop((finish m c -∗ Q ⟨⟩) -∗ run c (cc0_body (Memref.whole main_arg0) h0 (Memref.whole cc0_stg0_0) h1 (Memref.whole cc0_stg1_0) h2 (Memref.whole cc0_scratch0) h3 (Memref.whole cc0_scratch1) h4 (Memref.whole cc0_scratch2) h5 cc0_scratch3 cc0_scratch4 cc0_scratch5 cc0_scratch6 cc0_scratch7 cc0_scratch8 cc0_scratch9 cc0_scratch10 cc0_scratch11 cc0_scratch12 cc0_scratch13 cc0_scratch14) Q) := by
  rw [cc0_body_eq_skeleton]
  unfold cc0_body_skel start finish run
  rw [wp_bind, k0_part24_eq_skeleton]
  unfold k0_part24_skel
  rw [wp_bind]
  iintro ⟨#Hb, Hsx0, Hsda, HT6, How0, Hla0, HT2, How1, Hla1, HT3, How2, Hla2, HT4, How3, Hla3, HT5, HL0, HO, HB0, HL1, HB1, HL2, HB2, HCB, HPB, HP6, HT7, HR11, Hsx1, HT8, HR12, Hsx2, HT9, HR13, Hsx3, HT10, HR14, HP2, HC11, HP11, HG, Hoa0, HT15, HR19, HT23, HR27, HP3, HC12, HP12, Hoa1, HT16, HR20, HT24, HR28, HP4, HC13, HP13, Hoa2, HT17, HR21, HT25, HR29, HP5, HC14, HP14, Hoa3, HT18, HR22, HT26, HR30, HC27, HP27, HT31, HR33, HC28, HP28, HT32, HR34, HC21, HP21, HT35, HR37, HC22, HP22, HT36, HR38, HC19, HP19, HC20, HP20, HC29, HP29, HC30, HP30, HC33, HP33, HC34, HP34, HC37, HP37, HC38, HP38, HP7, HP15, HP23, HP8, HP16, HP24, HP9, HP17, HP25, HP10, HP18, HP26, HP31, HP32, HP35, HP36⟩ Hk
  iapply (part1 c h0 h1 h2 h3 h4 h5)
  iintro %_ %_ %_ %_ %_ %_ %_ %_ %_
  try dsimp only
  rw [wp_bind]
  iapply (part2 m K c h0 h1 h2 h3 h4 h5 _ _ _) $$ [Hsx0 Hsda HT6 How0 Hla0 HT2 How1 Hla1 HT3]
  · isplitr; · iexact Hb
    isplitl [Hsx0]; · iexact Hsx0
    isplitl [Hsda]; · iexact Hsda
    isplitl [HT6]; · iexact HT6
    isplitl [How0]; · iexact How0
    isplitl [Hla0]; · iexact Hla0
    isplitl [HT2]; · iexact HT2
    isplitl [How1]; · iexact How1
    isplitl [Hla1]; · iexact Hla1
    iexact HT3
  iintro %_ %_ ⟨HC6, HC2, HC3⟩
  try dsimp only
  rw [wp_bind]
  iapply (part3 m K c h0 h1 h2 h3 h4 h5 _ _ _ _ _ _) $$ [How2 Hla2 HT4 How3 Hla3 HT5 HL0 HO HB0 HL1 HB1]
  · isplitr; · iexact Hb
    isplitl [How2]; · iexact How2
    isplitl [Hla2]; · iexact Hla2
    isplitl [HT4]; · iexact HT4
    isplitl [How3]; · iexact How3
    isplitl [Hla3]; · iexact Hla3
    isplitl [HT5]; · iexact HT5
    isplitl [HL0]; · iexact HL0
    isplitl [HO]; · iexact HO
    isplitl [HB0]; · iexact HB0
    isplitl [HL1]; · iexact HL1
    iexact HB1
  iintro %_ %_ ⟨HC4, HC5, HO⟩
  try dsimp only
  rw [wp_bind]
  iapply (part4 m K c h0 h1 h2 h3 h4 h5 _ _ _ _ _ _ _ _) $$ [HL2 HO HB2 HCB HPB HC6 HP6 HT7 HR11]
  · isplitr; · iexact Hb
    isplitl [HL2]; · iexact HL2
    isplitl [HO]; · iexact HO
    isplitl [HB2]; · iexact HB2
    isplitl [HCB]; · iexact HCB
    isplitl [HPB]; · iexact HPB
    isplitl [HC6]; · iexact HC6
    isplitl [HP6]; · iexact HP6
    isplitl [HT7]; · iexact HT7
    iexact HR11
  iintro ⟨#HHn, HZB, HNX1, HNX2, HNX3, HNY0, HNY1, HNY2, HNY3, HNYF0, HNYF1, HNZ0, HNZ1, HNZ2, HNZ3, HNZF2, HNZF3, HZ6, Hsx0, HC7, HO⟩
  try dsimp only
  rw [wp_bind]
  iapply (part5 m K c h0 h1 h2 h3 h4 h5 _ _ _ _ _) $$ [Hsx1 HNX1 HO HT8 HR12 Hsx2 HNX2 HT9 HR13]
  · isplitr; · iexact Hb
    isplitr; · iexact HHn
    isplitl [Hsx1]; · iexact Hsx1
    isplitl [HNX1]; · iexact HNX1
    isplitl [HO]; · iexact HO
    isplitl [HT8]; · iexact HT8
    isplitl [HR12]; · iexact HR12
    isplitl [Hsx2]; · iexact Hsx2
    isplitl [HNX2]; · iexact HNX2
    isplitl [HT9]; · iexact HT9
    iexact HR13
  iintro %_ %_ ⟨HC8, HC9, HO⟩
  try dsimp only
  rw [wp_bind]
  iapply (part6 m K c h0 h1 h2 h3 h4 h5 _ _ _ _ _) $$ [Hsx3 HNX3 HO HT10 HR14 HC2 HP2 HC11 HP11]
  · isplitr; · iexact Hb
    isplitr; · iexact HHn
    isplitl [Hsx3]; · iexact Hsx3
    isplitl [HNX3]; · iexact HNX3
    isplitl [HO]; · iexact HO
    isplitl [HT10]; · iexact HT10
    isplitl [HR14]; · iexact HR14
    isplitl [HC2]; · iexact HC2
    isplitl [HP2]; · iexact HP2
    isplitl [HC11]; · iexact HC11
    iexact HP11
  iintro ⟨HC10, HZ2, How0, HO, HZ11, Hlo0, Hrx0⟩
  try dsimp only
  rw [wp_bind]
  iapply (part7 m K c h0 h1 h2 h3 h4 h5 _ _ _ _) $$ [HG Hoa0 HNY0 HO HT15 HR19]
  · isplitr; · iexact Hb
    isplitr; · iexact HHn
    isplitl [HG]; · iexact HG
    isplitl [Hoa0]; · iexact Hoa0
    isplitl [HNY0]; · iexact HNY0
    isplitl [HO]; · iexact HO
    isplitl [HT15]; · iexact HT15
    iexact HR19
  iintro ⟨HG, Hoi0, HC15, HO⟩
  try dsimp only
  rw [wp_bind]
  iapply (part8 m K c h0 h1 h2 h3 h4 h5 _ _ _ _ _) $$ [Hoi0 HNZ0 HO HT23 HR27 HC3 HP3 HC12 HP12]
  · isplitr; · iexact Hb
    isplitr; · iexact HHn
    isplitl [Hoi0]; · iexact Hoi0
    isplitl [HNZ0]; · iexact HNZ0
    isplitl [HO]; · iexact HO
    isplitl [HT23]; · iexact HT23
    isplitl [HR27]; · iexact HR27
    isplitl [HC3]; · iexact HC3
    isplitl [HP3]; · iexact HP3
    isplitl [HC12]; · iexact HC12
    iexact HP12
  iintro ⟨HC23, HZ3, How1, HO, HZ12, Hlo1, Hrx1⟩
  try dsimp only
  rw [wp_bind]
  iapply (part9 m K c h0 h1 h2 h3 h4 h5 _ _ _ _) $$ [HG Hoa1 HNY1 HO HT16 HR20]
  · isplitr; · iexact Hb
    isplitr; · iexact HHn
    isplitl [HG]; · iexact HG
    isplitl [Hoa1]; · iexact Hoa1
    isplitl [HNY1]; · iexact HNY1
    isplitl [HO]; · iexact HO
    isplitl [HT16]; · iexact HT16
    iexact HR20
  iintro %_ ⟨HG, Hoi1, HC16, HO⟩
  try dsimp only
  rw [wp_bind]
  iapply (part10 m K c h0 h1 h2 h3 h4 h5 _ _ _ _ _ _ _) $$ [Hoi1 HNZ1 HO HT24 HR28 HC4 HP4 HC13 HP13]
  · isplitr; · iexact Hb
    isplitr; · iexact HHn
    isplitl [Hoi1]; · iexact Hoi1
    isplitl [HNZ1]; · iexact HNZ1
    isplitl [HO]; · iexact HO
    isplitl [HT24]; · iexact HT24
    isplitl [HR28]; · iexact HR28
    isplitl [HC4]; · iexact HC4
    isplitl [HP4]; · iexact HP4
    isplitl [HC13]; · iexact HC13
    iexact HP13
  iintro ⟨HC24, HZ4, Hlo2, How2, HO, HZ13, Hrx2⟩
  try dsimp only
  rw [wp_bind]
  iapply (part11 m K c h0 h1 h2 h3 h4 h5 _ _ _ _) $$ [Hlo2 Hrx2 HG Hoa2]
  · isplitr; · iexact Hb
    isplitl [Hlo2]; · iexact Hlo2
    isplitl [Hrx2]; · iexact Hrx2
    isplitl [HG]; · iexact HG
    iexact Hoa2
  iintro ⟨Hlo2, Hrx2, HG, Hoh2, Hoi2⟩
  try dsimp only
  rw [wp_bind]
  iapply (part12 m K c h0 h1 h2 h3 h4 h5 _ _ _ _ _ _) $$ [Hoh2 HNY2 HO HT17 HR21 Hoi2 HNZ2 HT25 HR29 HC5 HP5]
  · isplitr; · iexact Hb
    isplitr; · iexact HHn
    isplitl [Hoh2]; · iexact Hoh2
    isplitl [HNY2]; · iexact HNY2
    isplitl [HO]; · iexact HO
    isplitl [HT17]; · iexact HT17
    isplitl [HR21]; · iexact HR21
    isplitl [Hoi2]; · iexact Hoi2
    isplitl [HNZ2]; · iexact HNZ2
    isplitl [HT25]; · iexact HT25
    isplitl [HR29]; · iexact HR29
    isplitl [HC5]; · iexact HC5
    iexact HP5
  iintro ⟨HC17, HC25, HO, HZ5, Hlo3, How3⟩
  try dsimp only
  rw [wp_bind]
  iapply (part13 m K c h0 h1 h2 h3 h4 h5 _ _ _ _) $$ [HC14 HO HP14 Hlo3 HG Hoa3]
  · isplitr; · iexact Hb
    isplitl [HC14]; · iexact HC14
    isplitl [HO]; · iexact HO
    isplitl [HP14]; · iexact HP14
    isplitl [Hlo3]; · iexact Hlo3
    isplitl [HG]; · iexact HG
    iexact Hoa3
  iintro %_ %_ ⟨HO, HZ14, Hlo3, Hrx3, HG, Hoh3, Hoi3⟩
  try dsimp only
  rw [wp_bind]
  iapply (part14 m K c h0 h1 h2 h3 h4 h5 _ _ _ _ _ _ _) $$ [Hoh3 HNY3 HO HT18 HR22 Hoi3 HNZ3 HT26 HR30]
  · isplitr; · iexact Hb
    isplitr; · iexact HHn
    isplitl [Hoh3]; · iexact Hoh3
    isplitl [HNY3]; · iexact HNY3
    isplitl [HO]; · iexact HO
    isplitl [HT18]; · iexact HT18
    isplitl [HR22]; · iexact HR22
    isplitl [Hoi3]; · iexact Hoi3
    isplitl [HNZ3]; · iexact HNZ3
    isplitl [HT26]; · iexact HT26
    iexact HR30
  iintro %_ ⟨HC18, HC26, HO⟩
  try dsimp only
  rw [wp_bind]
  iapply (part15 c h0 h1 h2 h3 h4 h5 _ _ _ _ _ _)
  try dsimp only
  rw [wp_bind]
  iapply (part16 m K c h0 h1 h2 h3 h4 h5 _ _ _ _ _ _) $$ [HC27 HO HP27 HNYF0 HT31 HR33 HC28 HP28]
  · isplitr; · iexact Hb
    isplitr; · iexact HHn
    isplitl [HC27]; · iexact HC27
    isplitl [HO]; · iexact HO
    isplitl [HP27]; · iexact HP27
    isplitl [HNYF0]; · iexact HNYF0
    isplitl [HT31]; · iexact HT31
    isplitl [HR33]; · iexact HR33
    isplitl [HC28]; · iexact HC28
    iexact HP28
  iintro ⟨HZ27, HC31, HO, HZ28, Hoz1⟩
  try dsimp only
  rw [wp_bind]
  iapply (part17 m K c h0 h1 h2 h3 h4 h5 _ _ _ _ _ _) $$ [Hoz1 HNYF1 HO HT32 HR34 HC21 HP21]
  · isplitr; · iexact Hb
    isplitr; · iexact HHn
    isplitl [Hoz1]; · iexact Hoz1
    isplitl [HNYF1]; · iexact HNYF1
    isplitl [HO]; · iexact HO
    isplitl [HT32]; · iexact HT32
    isplitl [HR34]; · iexact HR34
    isplitl [HC21]; · iexact HC21
    iexact HP21
  iintro ⟨HC32, HO, HZ21, Hoy2⟩
  try dsimp only
  rw [wp_bind]
  iapply (part18 m K c h0 h1 h2 h3 h4 h5 _ _ _ _ _ _) $$ [Hoy2 HNZF2 HO HT35 HR37 HC22 HP22 HNZF3 HT36 HR38]
  · isplitr; · iexact Hb
    isplitr; · iexact HHn
    isplitl [Hoy2]; · iexact Hoy2
    isplitl [HNZF2]; · iexact HNZF2
    isplitl [HO]; · iexact HO
    isplitl [HT35]; · iexact HT35
    isplitl [HR37]; · iexact HR37
    isplitl [HC22]; · iexact HC22
    isplitl [HP22]; · iexact HP22
    isplitl [HNZF3]; · iexact HNZF3
    isplitl [HT36]; · iexact HT36
    iexact HR38
  iintro %_ %_ ⟨HC35, HZ22, HC36, HO⟩
  try dsimp only
  rw [wp_bind]
  iapply (part19 m K c h0 h1 h2 h3 h4 h5 _ _ _ _ _ _ _) $$ [HC19 HO HP19 HC20 HP20 HC29 HP29]
  · isplitr; · iexact Hb
    isplitl [HC19]; · iexact HC19
    isplitl [HO]; · iexact HO
    isplitl [HP19]; · iexact HP19
    isplitl [HC20]; · iexact HC20
    isplitl [HP20]; · iexact HP20
    isplitl [HC29]; · iexact HC29
    iexact HP29
  iintro %_ %_ ⟨HZ19, Hoy0, HZ20, Hoy1, HO, HZ29, Hoz2⟩
  try dsimp only
  rw [wp_bind]
  iapply (part20 m K c h0 h1 h2 h3 h4 h5 _ _ _ _ _ _ _) $$ [HC30 HO HP30 HC33 HP33]
  · isplitr; · iexact Hb
    isplitl [HC30]; · iexact HC30
    isplitl [HO]; · iexact HO
    isplitl [HP30]; · iexact HP30
    isplitl [HC33]; · iexact HC33
    iexact HP33
  iintro ⟨HZ30, Hoz3, HO, HZ33, Hod0⟩
  try dsimp only
  rw [wp_bind]
  iapply (part21 m K c h0 h1 h2 h3 h4 h5 _ _ _ _) $$ [HC34 HO HP34 HC37 HP37 HC38 HP38]
  · isplitr; · iexact Hb
    isplitl [HC34]; · iexact HC34
    isplitl [HO]; · iexact HO
    isplitl [HP34]; · iexact HP34
    isplitl [HC37]; · iexact HC37
    isplitl [HP37]; · iexact HP37
    isplitl [HC38]; · iexact HC38
    iexact HP38
  iintro ⟨HZ34, Hod1, HZ37, Hod2, HO, HZ38, Hod3⟩
  try dsimp only
  rw [wp_bind]
  iapply (part22 m K c h0 h1 h2 h3 h4 h5 ) $$ [HC7 HO HP7 HC15 HP15 HC23 HP23 HC8 HP8 HC16 HP16]
  · isplitr; · iexact Hb
    isplitl [HC7]; · iexact HC7
    isplitl [HO]; · iexact HO
    isplitl [HP7]; · iexact HP7
    isplitl [HC15]; · iexact HC15
    isplitl [HP15]; · iexact HP15
    isplitl [HC23]; · iexact HC23
    isplitl [HP23]; · iexact HP23
    isplitl [HC8]; · iexact HC8
    isplitl [HP8]; · iexact HP8
    isplitl [HC16]; · iexact HC16
    iexact HP16
  iintro ⟨HZ7, Hsd, HZ15, Hoh0, HZ23, Hoi0, HZ8, Hsx1, HO, HZ16, Hoh1⟩
  try dsimp only
  rw [wp_bind]
  iapply (part23 m K c h0 h1 h2 h3 h4 h5 ) $$ [HC24 HO HP24 HC9 HP9 HC17 HP17 HC25 HP25 HC10 HP10 HC18 HP18]
  · isplitr; · iexact Hb
    isplitl [HC24]; · iexact HC24
    isplitl [HO]; · iexact HO
    isplitl [HP24]; · iexact HP24
    isplitl [HC9]; · iexact HC9
    isplitl [HP9]; · iexact HP9
    isplitl [HC17]; · iexact HC17
    isplitl [HP17]; · iexact HP17
    isplitl [HC25]; · iexact HC25
    isplitl [HP25]; · iexact HP25
    isplitl [HC10]; · iexact HC10
    isplitl [HP10]; · iexact HP10
    isplitl [HC18]; · iexact HC18
    iexact HP18
  iintro ⟨HZ24, Hoi1, HZ9, Hsx2, HZ17, Hoh2, HZ25, Hoi2, HZ10, Hsx3, HO, HZ18, Hoh3⟩
  try dsimp only
  simp only [Prog.lift, Prog.bind_op, Prog.bind_ret, Prog.pure_eq_ret]
  iapply (step_waitR m K c 26 (by decide) 19 (by decide +kernel) (owns (c : Thread nD τ) (outM (qt c) 3) half2 (res m c 3)) rfl ?_ ?_) $$ [HC26 HO HP26]
  · rfl
  · rfl
  · isplitr; · iexact Hb
    isplitl [HC26]; · iexact HC26
    isplitl [HO]; · iexact HO
    iexact HP26
  iintro ⟨HO, HZ26, Hoi3⟩
  iapply (step_waitR m K c 31 (by decide) 19 (by decide +kernel) (owns (c : Thread nD τ) (outM (qt (pZ c)) 0) fullShare (res m (pZ c) 0)) rfl ?_ ?_) $$ [HC31 HO HP31]
  · rfl
  · rfl
  · isplitr; · iexact Hb
    isplitl [HC31]; · iexact HC31
    isplitl [HO]; · iexact HO
    iexact HP31
  iintro ⟨HO, HZ31, Hoz0⟩
  iapply (step_waitR m K c 32 (by decide) 19 (by decide +kernel) (owns (c : Thread nD τ) (outM (qt (pZ c)) 1) fullShare (res m (pZ c) 1)) rfl ?_ ?_) $$ [HC32 HO HP32]
  · rfl
  · rfl
  · isplitr; · iexact Hb
    isplitl [HC32]; · iexact HC32
    isplitl [HO]; · iexact HO
    iexact HP32
  iintro ⟨HO, HZ32, Hoz1⟩
  unfold run; rw [wp_ret]; imodintro
  iapply (step_waitR m K c 35 (by decide) 19 (by decide +kernel) (owns (c : Thread nD τ) (outM (qt (pY c)) 2) fullShare (res m (pY c) 2)) rfl ?_ ?_) $$ [HC35 HO HP35]
  · rfl
  · rfl
  · isplitr; · iexact Hb
    isplitl [HC35]; · iexact HC35
    isplitl [HO]; · iexact HO
    iexact HP35
  iintro ⟨HO, HZ35, Hoy2⟩
  iapply (step_waitR m K c 36 (by decide) 19 (by decide +kernel) (owns (c : Thread nD τ) (outM (qt (pY c)) 3) fullShare (res m (pY c) 3)) rfl ?_ ?_) $$ [HC36 HO HP36]
  · rfl
  · rfl
  · isplitr; · iexact Hb
    isplitl [HC36]; · iexact HC36
    isplitl [HO]; · iexact HO
    iexact HP36
  iintro ⟨HO, HZ36, Hoy3⟩
  unfold run; rw [wp_ret]; imodintro
  iapply Hk
  isplitl [HZB]; · iexact HZB
  isplitl [HZ6]; · iexact HZ6
  isplitl [Hsx0]; · iexact Hsx0
  isplitl [HZ2]; · iexact HZ2
  isplitl [How0]; · iexact How0
  isplitl [HZ11]; · iexact HZ11
  isplitl [Hlo0]; · iexact Hlo0
  isplitl [Hrx0]; · iexact Hrx0
  isplitl [HZ3]; · iexact HZ3
  isplitl [How1]; · iexact How1
  isplitl [HZ12]; · iexact HZ12
  isplitl [Hlo1]; · iexact Hlo1
  isplitl [Hrx1]; · iexact Hrx1
  isplitl [HZ4]; · iexact HZ4
  isplitl [How2]; · iexact How2
  isplitl [HZ13]; · iexact HZ13
  isplitl [Hlo2]; · iexact Hlo2
  isplitl [Hrx2]; · iexact Hrx2
  isplitl [HZ5]; · iexact HZ5
  isplitl [How3]; · iexact How3
  isplitl [HZ14]; · iexact HZ14
  isplitl [Hlo3]; · iexact Hlo3
  isplitl [Hrx3]; · iexact Hrx3
  isplitl [HG]; · iexact HG
  isplitl [HZ27]; · iexact HZ27
  isplitl [HZ28]; · iexact HZ28
  isplitl [HZ21]; · iexact HZ21
  isplitl [HZ22]; · iexact HZ22
  isplitl [HZ19]; · iexact HZ19
  isplitl [Hoy0]; · iexact Hoy0
  isplitl [HZ20]; · iexact HZ20
  isplitl [Hoy1]; · iexact Hoy1
  isplitl [HZ29]; · iexact HZ29
  isplitl [Hoz2]; · iexact Hoz2
  isplitl [HZ30]; · iexact HZ30
  isplitl [Hoz3]; · iexact Hoz3
  isplitl [HZ33]; · iexact HZ33
  isplitl [Hod0]; · iexact Hod0
  isplitl [HZ34]; · iexact HZ34
  isplitl [Hod1]; · iexact Hod1
  isplitl [HZ37]; · iexact HZ37
  isplitl [Hod2]; · iexact Hod2
  isplitl [HZ38]; · iexact HZ38
  isplitl [Hod3]; · iexact Hod3
  isplitl [HZ7]; · iexact HZ7
  isplitl [Hsd]; · iexact Hsd
  isplitl [HZ15]; · iexact HZ15
  isplitl [Hoh0]; · iexact Hoh0
  isplitl [HZ23]; · iexact HZ23
  isplitl [Hoi0]; · iexact Hoi0
  isplitl [HZ8]; · iexact HZ8
  isplitl [Hsx1]; · iexact Hsx1
  isplitl [HZ16]; · iexact HZ16
  isplitl [Hoh1]; · iexact Hoh1
  isplitl [HZ24]; · iexact HZ24
  isplitl [Hoi1]; · iexact Hoi1
  isplitl [HZ9]; · iexact HZ9
  isplitl [Hsx2]; · iexact Hsx2
  isplitl [HZ17]; · iexact HZ17
  isplitl [Hoh2]; · iexact Hoh2
  isplitl [HZ25]; · iexact HZ25
  isplitl [Hoi2]; · iexact Hoi2
  isplitl [HZ10]; · iexact HZ10
  isplitl [Hsx3]; · iexact Hsx3
  isplitl [HZ18]; · iexact HZ18
  isplitl [Hoh3]; · iexact Hoh3
  isplitl [HZ26]; · iexact HZ26
  isplitl [Hoi3]; · iexact Hoi3
  isplitl [HZ31]; · iexact HZ31
  isplitl [Hoz0]; · iexact Hoz0
  isplitl [HZ32]; · iexact HZ32
  isplitl [Hoz1]; · iexact Hoz1
  isplitl [HZ35]; · iexact HZ35
  isplitl [Hoy2]; · iexact Hoy2
  isplitl [HO]; · iexact HO
  isplitl [HZ36]; · iexact HZ36
  iexact Hoy3

end Cert.Talk

end
-- ==== Proof.Carve.lean ====
/-
  Cutting a device's buffers into the pieces the body works on, and putting the pieces back together: the
  argument's rows, the chunks of the landing buffer and of the own rows' buffer, and the sixteen chunks of the result.
-/
module

public import proofs.«01_k».proof.Proof.Steps

@[expose] public section

noncomputable section

namespace Cert.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

theorem list4 {M : Type} [URA M] (Φ : Fin 4 → sProp M) : bigSep Finset.univ Φ = iprop(Φ 0 ∗ Φ 1 ∗ Φ 2 ∗ Φ 3) :=
  bigSep_univ_eq_bigSepL [(0 : Fin 4), 1, 2, 3] (by decide) (by decide) Φ

theorem any_intro (c : Dev nD) {sp : Space} {sh : Shape} (M : Memref sig .tc sp sh .f32) (X : sh.Idx → Elt F .f32) :
    (owns (c : Thread nD τ) M fullShare X : sProp 𝕄) ⊢ anyOf c M := by
  unfold anyOf
  iintro H
  iexists X
  iexact H

/-! ## The pieces of the argument -/

/-- A piece owned at what it reads of a buffer is its elements of that buffer. -/
theorem owns_read (c : Dev nD) {sp : Space} {sh : Shape} (M : Memref sig .tc sp sh .f32) (q : PosShare TreeShare) (f : M.view.ty.Contents (Elt F)) :
    (owns (c : Thread nD τ) M q (M.view.read (Elt F) f) : sProp 𝕄) = M.view.loc (c : Thread nD τ) ↦[M.view.set]{q} f := by
  have h : (owns (c : Thread nD τ) M q (M.view.read (Elt F) f) : sProp 𝕄) ⊢ M.view.loc (c : Thread nD τ) ↦[M.view.set]{q} f := by
    unfold owns
    iintro ⟨%g, %hg, H⟩
    ihave H := (BIBase.Entails.of_eq (pointsTo_congr (g := f) (fun i hi => by
      obtain ⟨x, -, rfl⟩ := Finset.mem_map.mp hi
      have := congrFun hg x
      exact (cast_inj _).mp this))) $$ H
    iexact H
  exact BI.equiv_iff.mp ⟨h, owns_intro (c : Thread nD τ) M q f⟩

/-- The eight pieces of the argument: `(0, k)` goes across x, `(1, k)` stays. -/
def pieceSet (c : Dev nD) : Fin 2 × Fin 4 → Finset S1x2048x1024.Idx
  | (0, k) => (pOth c k).view.set
  | (1, k) => (pOwn c k).view.set
/-- A piece's first row. -/
def pieceRow (c : Dev nD) : Fin 2 × Fin 4 → ℕ
  | (0, k) => (1 - xc c) * 1024 + 256 * (qt c).val + 64 * k.val
  | (1, k) => xc c * 1024 + 256 * (qt c).val + 64 * k.val

theorem pieceRow_apart (c : Dev nD) (j j' : Fin 2 × Fin 4) (h : j ≠ j') :
    pieceRow c j + 64 ≤ pieceRow c j' ∨ pieceRow c j' + 64 ≤ pieceRow c j := by
  revert c j j'; decide +kernel

theorem pieceSet_oth (c : Dev nD) (k : Fin 4) :
    pieceSet c (0, k) = (Rect.unit (s := S1x2048x1024) (k0_off1 c (BitVec.ofNat 32 (64 * k.val))) S1x64x1024.size (k0_off1_inb c k)).set :=
  (View.set_reshape _ _).trans (View.set_slice_whole main_arg0 _)
theorem pieceSet_own (c : Dev nD) (k : Fin 4) :
    pieceSet c (1, k) = (Rect.unit (s := S1x2048x1024) (k0_off2 c (BitVec.ofNat 32 (64 * k.val))) S1x64x1024.size (k0_off2_inb c k)).set :=
  (View.set_reshape _ _).trans (View.set_slice_whole main_arg0 _)

theorem pieceSet_row (c : Dev nD) (j : Fin 2 × Fin 4) (i : S1x2048x1024.Idx) (h : i ∈ pieceSet c j) :
    pieceRow c j ≤ (i 1).val ∧ (i 1).val < pieceRow c j + 64 := by
  obtain ⟨b, k⟩ := j
  match b with
  | 0 =>
    rw [pieceSet_oth] at h
    have := (Rect.mem_set_unit.mp h) 1
    rw [off1_eq] at this
    exact this
  | 1 =>
    rw [pieceSet_own] at h
    have := (Rect.mem_set_unit.mp h) 1
    rw [off2_eq] at this
    exact this

theorem pieceSet_disjoint (c : Dev nD) (j j' : Fin 2 × Fin 4) (h : j ≠ j') : Disjoint (pieceSet c j) (pieceSet c j') := by
  rw [Finset.disjoint_left]
  intro i h1 h2
  have a := pieceSet_row c j i h1
  have b := pieceSet_row c j' i h2
  have := pieceRow_apart c j j' h
  omega

/-- The argument's other elements. -/
def argRest (c : Dev nD) : sProp 𝕄 :=
  (((c : Thread nD τ).loc main_arg0) ↦[Finset.univ \ Finset.univ.biUnion (pieceSet c)]{fullShare} m ((c : Thread nD τ).loc main_arg0))

theorem owns_oth (c : Dev nD) (k : Fin 4) : (owns (c : Thread nD τ) (pOth c k) fullShare (snd m c k) : sProp 𝕄)
    = (((c : Thread nD τ).loc main_arg0) ↦[pieceSet c (0, k)]{fullShare} m ((c : Thread nD τ).loc main_arg0)) :=
  owns_read c (pOth c k) fullShare (m ((c : Thread nD τ).loc main_arg0))
theorem owns_own (c : Dev nD) (k : Fin 4) : (owns (c : Thread nD τ) (pOwn c k) fullShare (own m c k) : sProp 𝕄)
    = (((c : Thread nD τ).loc main_arg0) ↦[pieceSet c (1, k)]{fullShare} m ((c : Thread nD τ).loc main_arg0)) :=
  owns_read c (pOwn c k) fullShare (m ((c : Thread nD τ).loc main_arg0))

theorem arg_carve (c : Dev nD) :
    ((((c : Thread nD τ).loc main_arg0) ↦{fullShare} m ((c : Thread nD τ).loc main_arg0) : sProp 𝕄))
      = iprop(((owns (c : Thread nD τ) (pOth c 0) fullShare (snd m c 0) ∗ owns (c : Thread nD τ) (pOth c 1) fullShare (snd m c 1)
          ∗ owns (c : Thread nD τ) (pOth c 2) fullShare (snd m c 2) ∗ owns (c : Thread nD τ) (pOth c 3) fullShare (snd m c 3))
          ∗ (owns (c : Thread nD τ) (pOwn c 0) fullShare (own m c 0) ∗ owns (c : Thread nD τ) (pOwn c 1) fullShare (own m c 1)
          ∗ owns (c : Thread nD τ) (pOwn c 2) fullShare (own m c 2) ∗ owns (c : Thread nD τ) (pOwn c 3) fullShare (own m c 3)))
        ∗ argRest m c) := by
  have h0 := pointsTo_split_subset (Ix := Unit) (Name := ℕ) (U := UU) (Lvl := ℕ) (q := fullShare)
    (f := m ((c : Thread nD τ).loc main_arg0)) (Finset.subset_univ (Finset.univ.biUnion (pieceSet c)))
  have h1 := BI.equiv_iff.mp ⟨h0.1, h0.2⟩
  rw [h1, pointsTo_biUnion (ℓ := (c : Thread nD τ).loc main_arg0) Finset.univ (pieceSet c) (fun j _ j' _ h => pieceSet_disjoint c j j' h), bigSep_univ_prod,
    bigSep_fin_two, list4, list4]
  rw [owns_oth, owns_oth, owns_oth, owns_oth, owns_own, owns_own, owns_own, owns_own]
  rfl

/-! ## Buffers in chunks of 64 rows -/

/-- The index within a chunk. -/
def sub (i0 : ℕ) (i1 : Fin 1024) : S64x1024.Idx := fun a => match a with
  | 0 => ⟨i0 % 64, Nat.mod_lt _ (by decide)⟩
  | 1 => i1
/-- Four chunks as one buffer. -/
def glue4 {α : Type} (G : Fin 4 → S64x1024.Idx → α) : S256x1024.Idx → α := fun i =>
  G ⟨(i 0).val / 64 % 4, Nat.mod_lt _ (by decide)⟩ (sub (i 0).val (i 1))
/-- Four quarters of four chunks as one buffer. -/
def glue16 {α : Type} (G : Fin 4 → Fin 4 → S64x1024.Idx → α) : S1024x1024.Idx → α := fun i =>
  G ⟨(i 0).val / 256 % 4, Nat.mod_lt _ (by decide)⟩ ⟨(i 0).val / 64 % 4, Nat.mod_lt _ (by decide)⟩ (sub (i 0).val (i 1))

theorem sub_eq (n : ℕ) (j : S64x1024.Idx) (i0 : ℕ) (h : i0 = 64 * n + (j 0).val) (i1 : Fin 1024) (h1 : i1 = j 1) : sub i0 i1 = j := by
  have hj : (j 0).val < 64 := (j 0).isLt
  funext a
  match a with
  | 0 => exact Fin.ext (by show i0 % 64 = (j 0).val; omega)
  | 1 => exact h1

/-- The rectangle of chunk `k` of a four-chunk buffer. -/
abbrev chR (k : Fin 4) : Rect S256x1024 := Rect.unit (s := S256x1024) ![64 * k.val, 0] S64x1024.size (chunk_inb k)

theorem glue4_emb {α : Type} (G : Fin 4 → S64x1024.Idx → α) (k : Fin 4) : (fun j => glue4 G ((chR k).emb j)) = G k := by
  funext j
  have hj : (j 0).val < 64 := (j 0).isLt
  have e0 : ((chR k).emb j 0).val = 64 * k.val + (j 0).val := by
    show 64 * k.val + 1 * (j 0).val = _; omega
  have e1 : (chR k).emb j 1 = j 1 := Fin.ext (by show 0 + 1 * (j 1).val = _; omega)
  unfold glue4
  rw [sub_eq k.val j _ e0 _ e1]
  congr 1
  exact Fin.ext (by show ((chR k).emb j 0).val / 64 % 4 = k.val; rw [e0]; omega)
theorem glue16_emb {α : Type} (G : Fin 4 → Fin 4 → S64x1024.Idx → α) (a k : Fin 4) : (fun j => glue16 G ((outR a k).emb j)) = G a k := by
  funext j
  have hj : (j 0).val < 64 := (j 0).isLt
  have e0 : ((outR a k).emb j 0).val = 64 * (4 * a.val + k.val) + (j 0).val := by
    show 256 * a.val + 64 * k.val + 1 * (j 0).val = _; omega
  have e1 : (outR a k).emb j 1 = j 1 := Fin.ext (by show 0 + 1 * (j 1).val = _; omega)
  unfold glue16
  rw [sub_eq (4 * a.val + k.val) j _ e0 _ e1]
  have ha : (⟨((outR a k).emb j 0).val / 256 % 4, Nat.mod_lt _ (by decide)⟩ : Fin 4) = a :=
    Fin.ext (by show ((outR a k).emb j 0).val / 256 % 4 = a.val; rw [e0]; omega)
  have hk : (⟨((outR a k).emb j 0).val / 64 % 4, Nat.mod_lt _ (by decide)⟩ : Fin 4) = k :=
    Fin.ext (by show ((outR a k).emb j 0).val / 64 % 4 = k.val; rw [e0]; omega)
  exact congrFun (congrArg₂ G ha hk) j

theorem chR_disjoint (k k' : Fin 4) (h : k ≠ k') : Disjoint (chR k).set (chR k').set := by
  refine Rect.unit_disjoint 0 ?_
  show 64 * k.val + 64 ≤ 64 * k'.val ∨ 64 * k'.val + 64 ≤ 64 * k.val
  have : k.val ≠ k'.val := fun e => h (Fin.ext e)
  omega
theorem chR_cover : (Finset.univ : Finset (Fin 4)).biUnion (fun k => (chR k).set) = Finset.univ := by
  ext i
  refine ⟨fun _ => Finset.mem_univ _, fun _ => ?_⟩
  have h0 : (i 0).val < 256 := (i 0).isLt
  have h1 : (i 1).val < 1024 := (i 1).isLt
  refine Finset.mem_biUnion.mpr ⟨⟨(i 0).val / 64, by omega⟩, Finset.mem_univ _, Rect.mem_set_unit.mpr fun a => ?_⟩
  match a with
  | 0 => show 64 * ((i 0).val / 64) ≤ (i 0).val ∧ (i 0).val < 64 * ((i 0).val / 64) + 64; omega
  | 1 => show 0 ≤ (i 1).val ∧ (i 1).val < 0 + 1024; omega
theorem outR_disjoint (t t' : Fin 4 × Fin 4) (h : t ≠ t') : Disjoint (outR t.1 t.2).set (outR t'.1 t'.2).set := by
  refine Rect.unit_disjoint 0 ?_
  show 256 * t.1.val + 64 * t.2.val + 64 ≤ 256 * t'.1.val + 64 * t'.2.val ∨ 256 * t'.1.val + 64 * t'.2.val + 64 ≤ 256 * t.1.val + 64 * t.2.val
  have : t.1.val ≠ t'.1.val ∨ t.2.val ≠ t'.2.val := by
    by_contra hh
    exact h (Prod.ext (Fin.ext (by omega)) (Fin.ext (by omega)))
  omega
theorem outR_cover : (Finset.univ : Finset (Fin 4 × Fin 4)).biUnion (fun t => (outR t.1 t.2).set) = Finset.univ := by
  ext i
  refine ⟨fun _ => Finset.mem_univ _, fun _ => ?_⟩
  have h0 : (i 0).val < 1024 := (i 0).isLt
  have h1 : (i 1).val < 1024 := (i 1).isLt
  refine Finset.mem_biUnion.mpr ⟨(⟨(i 0).val / 256, by omega⟩, ⟨(i 0).val / 64 % 4, by omega⟩), Finset.mem_univ _, Rect.mem_set_unit.mpr fun a => ?_⟩
  match a with
  | 0 => show 256 * ((i 0).val / 256) + 64 * ((i 0).val / 64 % 4) ≤ (i 0).val ∧ (i 0).val < 256 * ((i 0).val / 256) + 64 * ((i 0).val / 64 % 4) + 64; omega
  | 1 => show 0 ≤ (i 1).val ∧ (i 1).val < 0 + 1024; omega

section Scratch

variable (c : Dev nD)

theorem rcv_carve (X : S256x1024.Idx → Elt F .f32) :
    (owns (c : Thread nD τ) (Memref.whole cc0_scratch0) fullShare X : sProp 𝕄)
      ⊢ iprop(anyOf c (rcvM 0) ∗ anyOf c (rcvM 1) ∗ anyOf c (rcvM 2) ∗ anyOf c (rcvM 3)) := by
  refine (owns_rects (c : Thread nD τ) (Memref.whole cc0_scratch0) fullShare chR (fun _ _ => rfl) chR_disjoint chR_cover X).trans ?_
  rw [← list4 (fun k => anyOf (F := F) c (rcvM k))]
  refine bigSep_mono fun k _ => ?_
  exact any_intro c (rcvM k) _
theorem rcv_glue (G : Fin 4 → S64x1024.Idx → Elt F .f32) :
    iprop(owns (c : Thread nD τ) (rcvM 0) fullShare (G 0) ∗ owns (c : Thread nD τ) (rcvM 1) fullShare (G 1)
      ∗ owns (c : Thread nD τ) (rcvM 2) fullShare (G 2) ∗ owns (c : Thread nD τ) (rcvM 3) fullShare (G 3))
      ⊢ (owns (c : Thread nD τ) (Memref.whole cc0_scratch0) fullShare (glue4 G) : sProp 𝕄) := by
  refine BIBase.Entails.trans ?_ (owns_of_rects (c : Thread nD τ) (Memref.whole cc0_scratch0) fullShare chR (fun _ _ => rfl) chR_disjoint chR_cover (glue4 G))
  rw [← list4 (fun k => (owns (c : Thread nD τ) (rcvM k) fullShare (G k) : sProp 𝕄))]
  refine bigSep_mono fun k _ => ?_
  rw [glue4_emb]
  exact (BIBase.Entails.rfl : (owns (c : Thread nD τ) (_) fullShare (G k) : sProp 𝕄) ⊢ _)
theorem loc_carve (X : S256x1024.Idx → Elt F .f32) :
    (owns (c : Thread nD τ) (Memref.whole cc0_scratch1) fullShare X : sProp 𝕄)
      ⊢ iprop(anyOf c (locM 0) ∗ anyOf c (locM 1) ∗ anyOf c (locM 2) ∗ anyOf c (locM 3)) := by
  refine (owns_rects (c : Thread nD τ) (Memref.whole cc0_scratch1) fullShare chR (fun _ _ => rfl) chR_disjoint chR_cover X).trans ?_
  rw [← list4 (fun k => anyOf (F := F) c (locM k))]
  refine bigSep_mono fun k _ => ?_
  exact any_intro c (locM k) _
theorem loc_glue (G : Fin 4 → S64x1024.Idx → Elt F .f32) :
    iprop(owns (c : Thread nD τ) (locM 0) fullShare (G 0) ∗ owns (c : Thread nD τ) (locM 1) fullShare (G 1)
      ∗ owns (c : Thread nD τ) (locM 2) fullShare (G 2) ∗ owns (c : Thread nD τ) (locM 3) fullShare (G 3))
      ⊢ (owns (c : Thread nD τ) (Memref.whole cc0_scratch1) fullShare (glue4 G) : sProp 𝕄) := by
  refine BIBase.Entails.trans ?_ (owns_of_rects (c : Thread nD τ) (Memref.whole cc0_scratch1) fullShare chR (fun _ _ => rfl) chR_disjoint chR_cover (glue4 G))
  rw [← list4 (fun k => (owns (c : Thread nD τ) (locM k) fullShare (G k) : sProp 𝕄))]
  refine bigSep_mono fun k _ => ?_
  rw [glue4_emb]
  exact (BIBase.Entails.rfl : (owns (c : Thread nD τ) (_) fullShare (G k) : sProp 𝕄) ⊢ _)

/-! ## The result's sixteen chunks, quarter by quarter as the device and its neighbours own them -/

/-- The devices that compute the four quarters of device `c`'s result. -/
def who : Fin 4 → Dev nD
  | 0 => c
  | 1 => pY c
  | 2 => pZ c
  | 3 => pD c
theorem who_inj : Function.Injective (fun t => qt (who c t)) := by
  have h : ∀ c t t', qt (who c t) = qt (who c t') → t = t' := by decide +kernel
  exact fun t t' => h c t t'
/-- Numbering the quarters by who computes them. -/
def whoE : Fin 4 ≃ Fin 4 := Equiv.ofBijective (fun t => qt (who c t)) (Finite.injective_iff_bijective.mp (who_inj c))
/-- The device that computes quarter `a` of device `c`'s result. -/
def srcOf (a : Fin 4) : Dev nD := ⟨(c.val / 8 * 8 + a.val / 2 * 4 + c.val / 2 % 2 * 2 + a.val % 2) % 32, Nat.mod_lt _ (by decide)⟩
theorem srcOf_who (t : Fin 4) : srcOf c (qt (who c t)) = who c t := by revert c t; decide +kernel

/-- A quarter at contents not chosen. -/
def anyQ (a : Fin 4) : sProp 𝕄 := iprop(anyOf c (outM a 0) ∗ anyOf c (outM a 1) ∗ anyOf c (outM a 2) ∗ anyOf c (outM a 3))
/-- Quarter `a` as device `e` computes it. -/
def haveQ (e : Dev nD) : sProp 𝕄 :=
  iprop(owns (c : Thread nD τ) (outM (qt e) 0) fullShare (res m e 0) ∗ owns (c : Thread nD τ) (outM (qt e) 1) fullShare (res m e 1)
    ∗ owns (c : Thread nD τ) (outM (qt e) 2) fullShare (res m e 2) ∗ owns (c : Thread nD τ) (outM (qt e) 3) fullShare (res m e 3))

theorem out_carve (X : S1024x1024.Idx → Elt F .f32) :
    (owns (c : Thread nD τ) (Memref.whole cc0_stg1_0) fullShare X : sProp 𝕄)
      ⊢ iprop(anyQ c (qt c) ∗ anyQ c (qt (pY c)) ∗ anyQ c (qt (pZ c)) ∗ anyQ c (qt (pD c))) := by
  refine (owns_rects (c : Thread nD τ) (Memref.whole cc0_stg1_0) fullShare (fun t : Fin 4 × Fin 4 => outR t.1 t.2) (fun _ _ => rfl) outR_disjoint outR_cover X).trans ?_
  rw [bigSep_univ_prod]
  refine BIBase.Entails.trans (bigSep_mono (Ψ := fun a => anyQ (F := F) c a) fun a _ => ?_) ?_
  · unfold anyQ
    rw [← list4 (fun k => anyOf (F := F) c (outM a k))]
    refine bigSep_mono fun k _ => ?_
    exact any_intro c (outM a k) _
  · rw [bigSep_univ_equiv (whoE c), list4]
    exact BIBase.Entails.rfl

/-- The whole result of device `c`. -/
def outv : S1024x1024.Idx → Elt F .f32 := glue16 fun a k => res m (srcOf c a) k

theorem out_glue :
    iprop(haveQ m c c ∗ haveQ m c (pY c) ∗ haveQ m c (pZ c) ∗ haveQ m c (pD c))
      ⊢ (owns (c : Thread nD τ) (Memref.whole cc0_stg1_0) fullShare (outv m c) : sProp 𝕄) := by
  refine BIBase.Entails.trans ?_ (owns_of_rects (c : Thread nD τ) (Memref.whole cc0_stg1_0) fullShare (fun t : Fin 4 × Fin 4 => outR t.1 t.2) (fun _ _ => rfl)
    outR_disjoint outR_cover (outv m c))
  rw [bigSep_univ_prod, bigSep_univ_equiv (whoE c)]
  refine BIBase.Entails.trans (Q := bigSep Finset.univ (fun t => haveQ m c (who c t))) ?_ (bigSep_mono fun t _ => ?_)
  · rw [list4]; exact BIBase.Entails.rfl
  · unfold haveQ
    rw [← list4 (fun k => owns (c : Thread nD τ) (outM (qt (who c t)) k) fullShare (res m (who c t) k))]
    refine bigSep_mono fun k _ => ?_
    unfold outv
    rw [glue16_emb]
    show _ ⊢ owns (c : Thread nD τ) (outM (qt (who c t)) k) fullShare (res m (srcOf c (qt (who c t))) k)
    rw [srcOf_who]

end Scratch

end Cert.Talk

end
-- ==== Proof.Deal.lean ====
/-
  How the protocol's state is dealt to the devices: the right to pay each duty goes to the device that pays it, the
  credits for what the neighbours owe it go to the device that waits. With it, a device's body starts from what it was
  dealt, and gives back every cell at zero and every buffer whole.
-/
module

public import proofs.«01_k».proof.Proof.Body
public import proofs.«01_k».proof.Proof.Carve

@[expose] public section

noncomputable section

namespace Cert.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

theorem zip_sep {I : Type} [Fintype I] [DecidableEq I] (A B : I → sProp 𝕄) :
    iprop(bigSep Finset.univ A ∗ bigSep Finset.univ B) ⊢ bigSep Finset.univ (fun i => iprop(A i ∗ B i)) := by
  rw [bigSep_sep']
theorem unzip_sep {I : Type} [Fintype I] [DecidableEq I] (A B : I → sProp 𝕄) :
    bigSep Finset.univ (fun i => iprop(A i ∗ B i)) ⊢ iprop(bigSep Finset.univ A ∗ bigSep Finset.univ B) := by
  rw [bigSep_sep']

/-! ## Tokens -/

/-- The semaphore of the `j`-th right: the barrier's three, then each transfer's. -/
def tsem (j : Fin 40) : SemLoc sig := if h : j.val < 3 then barL else osem ⟨j.val - 3, by omega⟩
/-- Its duty. -/
def tdty (j : Fin 40) : Fin 3 := if h : j.val < 3 then ⟨j.val, h⟩ else 0
/-- Which of the three neighbours' cell it is about; `3` for the device's own. -/
def tvia : Fin 40 → Fin 4 := ![0, 1, 2, 3, 3, 3, 3, 3, 3, 3, 3, 3, 0, 0, 0, 0, 3, 3, 3, 3, 1, 1, 1, 1, 3, 3, 3, 3, 2, 2, 2, 2, 3, 3, 1, 1, 3, 3, 2, 2]
/-- The device whose cell it is about. -/
def viaE : Fin 4 → (Dev nD ≃ Dev nD)
  | 0 => nbE 0
  | 1 => nbE 1
  | 2 => nbE 2
  | 3 => Equiv.refl _

theorem tk_inj (a b : Fin 40) (h1 : tsem a = tsem b) (h2 : tdty a = tdty b) : a = b := by
  by_cases ha : a.val < 3 <;> by_cases hb : b.val < 3
  · unfold tdty at h2
    rw [dif_pos ha, dif_pos hb] at h2
    have := congrArg Fin.val h2
    simp only at this
    exact Fin.ext this
  · unfold tsem at h1
    rw [dif_pos ha, dif_neg hb] at h1
    exact absurd h1 (by simp)
  · unfold tsem at h1
    rw [dif_neg ha, dif_pos hb] at h1
    exact absurd h1 (by simp)
  · unfold tsem at h1
    rw [dif_neg ha, dif_neg hb] at h1
    have := congrArg Fin.val (osem_inj h1)
    simp only at this
    exact Fin.ext (by omega)

/-- Every right, indexed by the device whose cell it is about. -/
def tokEmb : Dev nD × Fin 40 ↪ GSem nD τ sig × ℕ × Fin 3 :=
  ⟨fun p => (cell p.1 (tsem p.2), 0, tdty p.2), fun a b h => by
    have h1 : a.1 = b.1 := congrArg (fun t : GSem nD τ sig × ℕ × Fin 3 => t.1.1.1) h
    have h2 : tsem a.2 = tsem b.2 := congrArg (fun t : GSem nD τ sig × ℕ × Fin 3 => t.1.2) h
    have h3 : tdty a.2 = tdty b.2 := congrArg (fun t : GSem nD τ sig × ℕ × Fin 3 => t.2.2) h
    exact Prod.ext h1 (tk_inj _ _ h2 h3)⟩
def talkToks : Finset (GSem nD τ sig × ℕ × Fin 3) := Finset.univ.map tokEmb

/-- The rights device `c` uses: those of the duties it pays. -/
def myToks (c : Dev nD) : sProp 𝕄 := bigSep Finset.univ (fun j : Fin 40 => tok (viaE (tvia j) c) (tsem j) (tdty j))

theorem toks_dealt : bigSep talkToks (fun x => (dutyTok ER x.1 x.2.1 x.2.2 : sProp 𝕄)) ⊢ bigSep Finset.univ (fun c : Dev nD => myToks c) := by
  refine BIBase.Entails.of_eq ?_
  unfold talkToks myToks
  rw [bigSep_map, bigSep_univ_prod, bigSep_univ_comm, bigSep_univ_comm (fun (c : Dev nD) (j : Fin 40) => (tok (viaE (tvia j) c) (tsem j) (tdty j) : sProp 𝕄))]
  exact bigSep_congr fun j _ => bigSep_univ_equiv (viaE (tvia j)) (fun c : Dev nD => (tok c (tsem j) (tdty j) : sProp 𝕄))

set_option maxRecDepth 16384 in
theorem list40 {M : Type} [URA M] (Φ : Fin 40 → sProp M) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22 ∗ Φ 23 ∗ Φ 24 ∗ Φ 25 ∗ Φ 26 ∗ Φ 27 ∗ Φ 28 ∗ Φ 29 ∗ Φ 30 ∗ Φ 31 ∗ Φ 32 ∗ Φ 33 ∗ Φ 34 ∗ Φ 35 ∗ Φ 36 ∗ Φ 37 ∗ Φ 38 ∗ Φ 39) :=
  bigSep_univ_eq_bigSepL [0, 1, 2, 3, 4, 5, 6, 7, 8, 9, 10, 11, 12, 13, 14, 15, 16, 17, 18, 19, 20, 21, 22, 23, 24, 25, 26, 27, 28, 29, 30, 31, 32, 33, 34, 35, 36, 37, 38, 39] (by decide) (by decide) Φ
set_option maxRecDepth 16384 in
theorem list37 {M : Type} [URA M] (Φ : Fin 37 → sProp M) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22 ∗ Φ 23 ∗ Φ 24 ∗ Φ 25 ∗ Φ 26 ∗ Φ 27 ∗ Φ 28 ∗ Φ 29 ∗ Φ 30 ∗ Φ 31 ∗ Φ 32 ∗ Φ 33 ∗ Φ 34 ∗ Φ 35 ∗ Φ 36) :=
  bigSep_univ_eq_bigSepL [0, 1, 2, 3, 4, 5, 6, 7, 8, 9, 10, 11, 12, 13, 14, 15, 16, 17, 18, 19, 20, 21, 22, 23, 24, 25, 26, 27, 28, 29, 30, 31, 32, 33, 34, 35, 36] (by decide) (by decide) Φ

set_option maxRecDepth 16384 in
theorem myToks_eq (c : Dev nD) : (myToks c : sProp 𝕄) = iprop(tok (nb 0 c) barL 0 ∗ tok (nb 1 c) barL 1 ∗ tok (nb 2 c) barL 2 ∗ tok c (.dma 2) 0 ∗ tok c (.dma 3) 0 ∗ tok c (.dma 4) 0 ∗ tok c (.dma 5) 0 ∗ tok c (.dma 6) 0 ∗ tok c (.dma 7) 0 ∗ tok c (.dma 8) 0 ∗ tok c (.dma 9) 0 ∗ tok c (.dma 10) 0 ∗ tok (nb 0 c) (.dma 11) 0 ∗ tok (nb 0 c) (.dma 12) 0 ∗ tok (nb 0 c) (.dma 13) 0 ∗ tok (nb 0 c) (.dma 14) 0 ∗ tok c (.dma 15) 0 ∗ tok c (.dma 16) 0 ∗ tok c (.dma 17) 0 ∗ tok c (.dma 18) 0 ∗ tok (nb 1 c) (.dma 19) 0 ∗ tok (nb 1 c) (.dma 20) 0 ∗ tok (nb 1 c) (.dma 21) 0 ∗ tok (nb 1 c) (.dma 22) 0 ∗ tok c (.dma 23) 0 ∗ tok c (.dma 24) 0 ∗ tok c (.dma 25) 0 ∗ tok c (.dma 26) 0 ∗ tok (nb 2 c) (.dma 27) 0 ∗ tok (nb 2 c) (.dma 28) 0 ∗ tok (nb 2 c) (.dma 29) 0 ∗ tok (nb 2 c) (.dma 30) 0 ∗ tok c (.dma 31) 0 ∗ tok c (.dma 32) 0 ∗ tok (nb 1 c) (.dma 33) 0 ∗ tok (nb 1 c) (.dma 34) 0 ∗ tok c (.dma 35) 0 ∗ tok c (.dma 36) 0 ∗ tok (nb 2 c) (.dma 37) 0 ∗ tok (nb 2 c) (.dma 38) 0) :=
  (list40 _).trans rfl

/-! ## Positions -/

/-- The positions of device `c` on its transfer cells, before (`0`) or after (`1`) the round. -/
def poss (c : Dev nD) (n : ℕ) : sProp 𝕄 := bigSep Finset.univ (fun j : Fin 37 => pos c (osem j) n)
set_option maxRecDepth 16384 in
theorem poss_eq (c : Dev nD) (n : ℕ) : (poss c n : sProp 𝕄) = iprop(pos c (.dma 2) n ∗ pos c (.dma 3) n ∗ pos c (.dma 4) n ∗ pos c (.dma 5) n ∗ pos c (.dma 6) n ∗ pos c (.dma 7) n ∗ pos c (.dma 8) n ∗ pos c (.dma 9) n ∗ pos c (.dma 10) n ∗ pos c (.dma 11) n ∗ pos c (.dma 12) n ∗ pos c (.dma 13) n ∗ pos c (.dma 14) n ∗ pos c (.dma 15) n ∗ pos c (.dma 16) n ∗ pos c (.dma 17) n ∗ pos c (.dma 18) n ∗ pos c (.dma 19) n ∗ pos c (.dma 20) n ∗ pos c (.dma 21) n ∗ pos c (.dma 22) n ∗ pos c (.dma 23) n ∗ pos c (.dma 24) n ∗ pos c (.dma 25) n ∗ pos c (.dma 26) n ∗ pos c (.dma 27) n ∗ pos c (.dma 28) n ∗ pos c (.dma 29) n ∗ pos c (.dma 30) n ∗ pos c (.dma 31) n ∗ pos c (.dma 32) n ∗ pos c (.dma 33) n ∗ pos c (.dma 34) n ∗ pos c (.dma 35) n ∗ pos c (.dma 36) n ∗ pos c (.dma 37) n ∗ pos c (.dma 38) n) :=
  (list37 _).trans rfl

/-! ## Credits -/

/-- The credits of device `c`: for its three barrier units and for each transfer a neighbour sends it. -/
def creds (c : Dev nD) : sProp 𝕄 :=
  iprop(cred (tallyAt (cell c barL) () 3) ∗ crd c 11 ∗ crd c 12 ∗ crd c 13 ∗ crd c 14 ∗ crd c 19 ∗ crd c 27 ∗ crd c 20 ∗ crd c 28 ∗ crd c 21 ∗ crd c 29 ∗ crd c 22 ∗ crd c 30 ∗ crd c 33 ∗ crd c 34 ∗ crd c 37 ∗ crd c 38)

/-- One credit for each payment in a list, on the device's own cells. -/
def credL (c : Dev nD) : List (Fin 3 × SemLoc sig) → sProp 𝕄
  | [] => iprop(emp)
  | p :: l => iprop(cred (tallyAt (cell c p.2) () (amt p.2)) ∗ credL c l)

theorem credL_dealt (c : Dev nD) (l : List (Fin 3 × SemLoc sig)) : (Pipeline.launchCred (fun d => dueL d l) c : sProp 𝕄) ⊢ credL c l := by
  induction l with
  | nil =>
    unfold credL
    exact BIBase.Entails.of_eq (Pipeline.launchCred_zero c)
  | cons p l ih =>
    rw [show (fun d : Dev nD => dueL d (p :: l)) = fun d => dueL d l + due1 d p from funext fun d => dueL_cons d p l, Pipeline.launchCred_add]
    unfold credL
    refine BIBase.Entails.trans (BIClass.sep_mono ih (Pipeline.launchCred_tallyAt p.2 (nb p.1) (nb p.1) (nb_nb p.1) (nb_nb p.1) () (amt p.2) c)) ?_
    iintro ⟨H1, H2⟩
    isplitl [H2]; · iexact H2
    iexact H1

theorem bar_creds (c : Dev nD) : iprop(cred (tallyAt (cell c barL) () 1) ∗ cred (tallyAt (cell c barL) () 1) ∗ cred (tallyAt (cell c barL) () 1))
    ⊢ (cred (tallyAt (cell c barL) () 3) : sProp 𝕄) := by
  rw [show (tallyAt (cell c barL) () 3 : CellTallies nD τ sig Unit) = tallyAt (cell c barL) () 1 + (tallyAt (cell c barL) () 1 + tallyAt (cell c barL) () 1) by
    rw [tallyAt_add, tallyAt_add]]
  exact BIBase.Entails.trans (BIClass.sep_mono BIBase.Entails.rfl (cred_add _ _).2) (cred_add _ _).2

theorem creds_dealt (c : Dev nD) : (Pipeline.launchCred (fun d => due d 0) c : sProp 𝕄) ⊢ creds c := by
  refine BIBase.Entails.trans (credL_dealt c sched) ?_
  unfold sched creds
  simp only [credL, amt]
  iintro ⟨H0, H1, H2, HC11, HC12, HC13, HC14, HC19, HC27, HC20, HC28, HC21, HC29, HC22, HC30, HC33, HC34, HC37, HC38, -⟩
  isplitl [H0 H1 H2]
  · iapply (bar_creds c)
    isplitl [H0]; · iexact H0
    isplitl [H1]; · iexact H1
    iexact H2
  isplitl [HC11]; · iexact HC11
  isplitl [HC12]; · iexact HC12
  isplitl [HC13]; · iexact HC13
  isplitl [HC14]; · iexact HC14
  isplitl [HC19]; · iexact HC19
  isplitl [HC27]; · iexact HC27
  isplitl [HC20]; · iexact HC20
  isplitl [HC28]; · iexact HC28
  isplitl [HC21]; · iexact HC21
  isplitl [HC29]; · iexact HC29
  isplitl [HC22]; · iexact HC22
  isplitl [HC30]; · iexact HC30
  isplitl [HC33]; · iexact HC33
  isplitl [HC34]; · iexact HC34
  isplitl [HC37]; · iexact HC37
  iexact HC38

/-! ## Into the body -/

/-- A device's protocol state when the body starts. -/
def dealt (c : Dev nD) : sProp 𝕄 := iprop(myToks c ∗ pos c barL 0 ∗ poss c 0 ∗ creds c)
/-- The buffers a device's body works on, as it finds them. -/
def found (c : Dev nD) : sProp 𝕄 :=
  iprop((owns (c : Thread nD τ) (pOth c 0) fullShare (snd m c 0) ∗ owns (c : Thread nD τ) (pOth c 1) fullShare (snd m c 1) ∗ owns (c : Thread nD τ) (pOth c 2) fullShare (snd m c 2) ∗ owns (c : Thread nD τ) (pOth c 3) fullShare (snd m c 3)) ∗ (owns (c : Thread nD τ) (pOwn c 0) fullShare (own m c 0) ∗ owns (c : Thread nD τ) (pOwn c 1) fullShare (own m c 1) ∗ owns (c : Thread nD τ) (pOwn c 2) fullShare (own m c 2) ∗ owns (c : Thread nD τ) (pOwn c 3) fullShare (own m c 3))
    ∗ (anyOf c (rcvM 0) ∗ anyOf c (rcvM 1) ∗ anyOf c (rcvM 2) ∗ anyOf c (rcvM 3)) ∗ (anyOf c (locM 0) ∗ anyOf c (locM 1) ∗ anyOf c (locM 2) ∗ anyOf c (locM 3)) ∗ anyOf c sndM
    ∗ owns (c : Thread nD τ) (Memref.whole cc0_stg0_0) fullShare (gam m c) ∗ (anyQ c (qt c) ∗ anyQ c (qt (pY c)) ∗ anyQ c (qt (pZ c)) ∗ anyQ c (qt (pD c))))

set_option maxRecDepth 65536 in
set_option maxHeartbeats 4000000 in
theorem start_join (c : Dev nD) : iprop(dealt c ∗ found m c ∗ OW c 0) ⊢ start m c := by
  unfold dealt found creds anyQ start
  rw [myToks_eq, poss_eq]
  iintro ⟨⟨⟨HB0, HB1, HB2, HT2, HT3, HT4, HT5, HT6, HT7, HT8, HT9, HT10, HR11, HR12, HR13, HR14, HT15, HT16, HT17, HT18, HR19, HR20, HR21, HR22, HT23, HT24, HT25, HT26, HR27, HR28, HR29, HR30, HT31, HT32, HR33, HR34, HT35, HT36, HR37, HR38⟩, HPB, ⟨HP2, HP3, HP4, HP5, HP6, HP7, HP8, HP9, HP10, HP11, HP12, HP13, HP14, HP15, HP16, HP17, HP18, HP19, HP20, HP21, HP22, HP23, HP24, HP25, HP26, HP27, HP28, HP29, HP30, HP31, HP32, HP33, HP34, HP35, HP36, HP37, HP38⟩, HCB, HC11, HC12, HC13, HC14, HC19, HC27, HC20, HC28, HC21, HC29, HC22, HC30, HC33, HC34, HC37, HC38⟩, ⟨⟨Hsx0, Hsx1, Hsx2, Hsx3⟩, ⟨How0, How1, How2, How3⟩, HL0, ⟨Hla0, Hla1, Hla2, Hla3⟩, Hsda, HG, ⟨Hoa0, Hoa1, Hoa2, Hoa3⟩, ⟨Hy0, Hy1, Hy2, Hy3⟩, ⟨Hz0, Hz1, Hz2, Hz3⟩, ⟨Hd0, Hd1, Hd2, Hd3⟩⟩, HO⟩
  isplitl [Hsx0]; · iexact Hsx0
  isplitl [Hsda]; · iexact Hsda
  isplitl [HT6]; · iexact HT6
  isplitl [How0]; · iexact How0
  isplitl [Hla0]; · iexact Hla0
  isplitl [HT2]; · iexact HT2
  isplitl [How1]; · iexact How1
  isplitl [Hla1]; · iexact Hla1
  isplitl [HT3]; · iexact HT3
  isplitl [How2]; · iexact How2
  isplitl [Hla2]; · iexact Hla2
  isplitl [HT4]; · iexact HT4
  isplitl [How3]; · iexact How3
  isplitl [Hla3]; · iexact Hla3
  isplitl [HT5]; · iexact HT5
  isplitl [HL0]; · unfold lend; iexact HL0
  isplitl [HO]; · iexact HO
  isplitl [HB0]; · iexact HB0
  isplitl [Hy0 Hy1 Hy2 Hy3 Hd0 Hd1]
  · unfold lend
    isplitl [Hy0]; · iexact Hy0
    isplitl [Hy1]; · iexact Hy1
    isplitl [Hy2]; · iexact Hy2
    isplitl [Hy3]; · iexact Hy3
    isplitl [Hd0]; · iexact Hd0
    iexact Hd1
  isplitl [HB1]; · iexact HB1
  isplitl [Hz0 Hz1 Hz2 Hz3 Hd2 Hd3]
  · unfold lend
    isplitl [Hz0]; · iexact Hz0
    isplitl [Hz1]; · iexact Hz1
    isplitl [Hz2]; · iexact Hz2
    isplitl [Hz3]; · iexact Hz3
    isplitl [Hd2]; · iexact Hd2
    iexact Hd3
  isplitl [HB2]; · iexact HB2
  isplitl [HCB]; · iexact HCB
  isplitl [HPB]; · iexact HPB
  isplitl [HP6]; · iexact HP6
  isplitl [HT7]; · iexact HT7
  isplitl [HR11]; · iexact HR11
  isplitl [Hsx1]; · iexact Hsx1
  isplitl [HT8]; · iexact HT8
  isplitl [HR12]; · iexact HR12
  isplitl [Hsx2]; · iexact Hsx2
  isplitl [HT9]; · iexact HT9
  isplitl [HR13]; · iexact HR13
  isplitl [Hsx3]; · iexact Hsx3
  isplitl [HT10]; · iexact HT10
  isplitl [HR14]; · iexact HR14
  isplitl [HP2]; · iexact HP2
  isplitl [HC11]; · iexact HC11
  isplitl [HP11]; · iexact HP11
  isplitl [HG]; · iexact HG
  isplitl [Hoa0]; · iexact Hoa0
  isplitl [HT15]; · iexact HT15
  isplitl [HR19]; · iexact HR19
  isplitl [HT23]; · iexact HT23
  isplitl [HR27]; · iexact HR27
  isplitl [HP3]; · iexact HP3
  isplitl [HC12]; · iexact HC12
  isplitl [HP12]; · iexact HP12
  isplitl [Hoa1]; · iexact Hoa1
  isplitl [HT16]; · iexact HT16
  isplitl [HR20]; · iexact HR20
  isplitl [HT24]; · iexact HT24
  isplitl [HR28]; · iexact HR28
  isplitl [HP4]; · iexact HP4
  isplitl [HC13]; · iexact HC13
  isplitl [HP13]; · iexact HP13
  isplitl [Hoa2]; · iexact Hoa2
  isplitl [HT17]; · iexact HT17
  isplitl [HR21]; · iexact HR21
  isplitl [HT25]; · iexact HT25
  isplitl [HR29]; · iexact HR29
  isplitl [HP5]; · iexact HP5
  isplitl [HC14]; · iexact HC14
  isplitl [HP14]; · iexact HP14
  isplitl [Hoa3]; · iexact Hoa3
  isplitl [HT18]; · iexact HT18
  isplitl [HR22]; · iexact HR22
  isplitl [HT26]; · iexact HT26
  isplitl [HR30]; · iexact HR30
  isplitl [HC27]; · iexact HC27
  isplitl [HP27]; · iexact HP27
  isplitl [HT31]; · iexact HT31
  isplitl [HR33]; · iexact HR33
  isplitl [HC28]; · iexact HC28
  isplitl [HP28]; · iexact HP28
  isplitl [HT32]; · iexact HT32
  isplitl [HR34]; · iexact HR34
  isplitl [HC21]; · iexact HC21
  isplitl [HP21]; · iexact HP21
  isplitl [HT35]; · iexact HT35
  isplitl [HR37]; · iexact HR37
  isplitl [HC22]; · iexact HC22
  isplitl [HP22]; · iexact HP22
  isplitl [HT36]; · iexact HT36
  isplitl [HR38]; · iexact HR38
  isplitl [HC19]; · iexact HC19
  isplitl [HP19]; · iexact HP19
  isplitl [HC20]; · iexact HC20
  isplitl [HP20]; · iexact HP20
  isplitl [HC29]; · iexact HC29
  isplitl [HP29]; · iexact HP29
  isplitl [HC30]; · iexact HC30
  isplitl [HP30]; · iexact HP30
  isplitl [HC33]; · iexact HC33
  isplitl [HP33]; · iexact HP33
  isplitl [HC34]; · iexact HC34
  isplitl [HP34]; · iexact HP34
  isplitl [HC37]; · iexact HC37
  isplitl [HP37]; · iexact HP37
  isplitl [HC38]; · iexact HC38
  isplitl [HP38]; · iexact HP38
  isplitl [HP7]; · iexact HP7
  isplitl [HP15]; · iexact HP15
  isplitl [HP23]; · iexact HP23
  isplitl [HP8]; · iexact HP8
  isplitl [HP16]; · iexact HP16
  isplitl [HP24]; · iexact HP24
  isplitl [HP9]; · iexact HP9
  isplitl [HP17]; · iexact HP17
  isplitl [HP25]; · iexact HP25
  isplitl [HP10]; · iexact HP10
  isplitl [HP18]; · iexact HP18
  isplitl [HP26]; · iexact HP26
  isplitl [HP31]; · iexact HP31
  isplitl [HP32]; · iexact HP32
  isplitl [HP35]; · iexact HP35
  iexact HP36

/-! ## Out of the body -/

/-- The buffers a device's body worked on, as it leaves them. -/
def left (c : Dev nD) : sProp 𝕄 :=
  iprop((owns (c : Thread nD τ) (pOth c 0) fullShare (snd m c 0) ∗ owns (c : Thread nD τ) (pOth c 1) fullShare (snd m c 1) ∗ owns (c : Thread nD τ) (pOth c 2) fullShare (snd m c 2) ∗ owns (c : Thread nD τ) (pOth c 3) fullShare (snd m c 3)) ∗ (owns (c : Thread nD τ) (pOwn c 0) fullShare (own m c 0) ∗ owns (c : Thread nD τ) (pOwn c 1) fullShare (own m c 1) ∗ owns (c : Thread nD τ) (pOwn c 2) fullShare (own m c 2) ∗ owns (c : Thread nD τ) (pOwn c 3) fullShare (own m c 3))
    ∗ (owns (c : Thread nD τ) (rcvM 0) fullShare (snd m (pX c) 0) ∗ owns (c : Thread nD τ) (rcvM 1) fullShare (snd m (pX c) 1) ∗ owns (c : Thread nD τ) (rcvM 2) fullShare (snd m (pX c) 2) ∗ owns (c : Thread nD τ) (rcvM 3) fullShare (snd m (pX c) 3)) ∗ (owns (c : Thread nD τ) (locM 0) fullShare (own m c 0) ∗ owns (c : Thread nD τ) (locM 1) fullShare (own m c 1) ∗ owns (c : Thread nD τ) (locM 2) fullShare (own m c 2) ∗ owns (c : Thread nD τ) (locM 3) fullShare (own m c 3)) ∗ owns (c : Thread nD τ) sndM fullShare (snd m c 0)
    ∗ owns (c : Thread nD τ) (Memref.whole cc0_stg0_0) fullShare (gam m c) ∗ (haveQ m c c ∗ haveQ m c (pY c) ∗ haveQ m c (pZ c) ∗ haveQ m c (pD c)))

set_option maxRecDepth 65536 in
set_option maxHeartbeats 4000000 in
theorem finish_split (c : Dev nD) : finish m c ⊢ iprop((pos c barL 1 ∗ poss c 1) ∗ left m c ∗ OW c 19) := by
  unfold finish left haveQ
  rw [poss_eq]
  iintro ⟨HZB, HZ6, Hsx0, HZ2, How0, HZ11, Hlo0, Hrx0, HZ3, How1, HZ12, Hlo1, Hrx1, HZ4, How2, HZ13, Hlo2, Hrx2, HZ5, How3, HZ14, Hlo3, Hrx3, HG, HZ27, HZ28, HZ21, HZ22, HZ19, Hoy0, HZ20, Hoy1, HZ29, Hoz2, HZ30, Hoz3, HZ33, Hod0, HZ34, Hod1, HZ37, Hod2, HZ38, Hod3, HZ7, Hsd, HZ15, Hoh0, HZ23, Hoi0, HZ8, Hsx1, HZ16, Hoh1, HZ24, Hoi1, HZ9, Hsx2, HZ17, Hoh2, HZ25, Hoi2, HZ10, Hsx3, HZ18, Hoh3, HZ26, Hoi3, HZ31, Hoz0, HZ32, Hoz1, HZ35, Hoy2, HO, HZ36, Hoy3⟩
  isplitl [HZB HZ2 HZ3 HZ4 HZ5 HZ6 HZ7 HZ8 HZ9 HZ10 HZ11 HZ12 HZ13 HZ14 HZ15 HZ16 HZ17 HZ18 HZ19 HZ20 HZ21 HZ22 HZ23 HZ24 HZ25 HZ26 HZ27 HZ28 HZ29 HZ30 HZ31 HZ32 HZ33 HZ34 HZ35 HZ36 HZ37 HZ38]
  · isplitl [HZB]; · iexact HZB
    isplitl [HZ2]; · iexact HZ2
    isplitl [HZ3]; · iexact HZ3
    isplitl [HZ4]; · iexact HZ4
    isplitl [HZ5]; · iexact HZ5
    isplitl [HZ6]; · iexact HZ6
    isplitl [HZ7]; · iexact HZ7
    isplitl [HZ8]; · iexact HZ8
    isplitl [HZ9]; · iexact HZ9
    isplitl [HZ10]; · iexact HZ10
    isplitl [HZ11]; · iexact HZ11
    isplitl [HZ12]; · iexact HZ12
    isplitl [HZ13]; · iexact HZ13
    isplitl [HZ14]; · iexact HZ14
    isplitl [HZ15]; · iexact HZ15
    isplitl [HZ16]; · iexact HZ16
    isplitl [HZ17]; · iexact HZ17
    isplitl [HZ18]; · iexact HZ18
    isplitl [HZ19]; · iexact HZ19
    isplitl [HZ20]; · iexact HZ20
    isplitl [HZ21]; · iexact HZ21
    isplitl [HZ22]; · iexact HZ22
    isplitl [HZ23]; · iexact HZ23
    isplitl [HZ24]; · iexact HZ24
    isplitl [HZ25]; · iexact HZ25
    isplitl [HZ26]; · iexact HZ26
    isplitl [HZ27]; · iexact HZ27
    isplitl [HZ28]; · iexact HZ28
    isplitl [HZ29]; · iexact HZ29
    isplitl [HZ30]; · iexact HZ30
    isplitl [HZ31]; · iexact HZ31
    isplitl [HZ32]; · iexact HZ32
    isplitl [HZ33]; · iexact HZ33
    isplitl [HZ34]; · iexact HZ34
    isplitl [HZ35]; · iexact HZ35
    isplitl [HZ36]; · iexact HZ36
    isplitl [HZ37]; · iexact HZ37
    iexact HZ38
  isplitl [Hsx0 Hsx1 Hsx2 Hsx3 How0 How1 How2 How3 Hrx0 Hrx1 Hrx2 Hrx3 Hlo0 Hlo1 Hlo2 Hlo3 Hsd HG Hoh0 Hoh1 Hoh2 Hoh3 Hoi0 Hoi1 Hoi2 Hoi3 Hoy0 Hoy1 Hoy2 Hoy3 Hoz0 Hoz1 Hoz2 Hoz3 Hod0 Hod1 Hod2 Hod3]
  · isplitl [Hsx0 Hsx1 Hsx2 Hsx3]
    · isplitl [Hsx0]; · iexact Hsx0
      isplitl [Hsx1]; · iexact Hsx1
      isplitl [Hsx2]; · iexact Hsx2
      iexact Hsx3
    isplitl [How0 How1 How2 How3]
    · isplitl [How0]; · iexact How0
      isplitl [How1]; · iexact How1
      isplitl [How2]; · iexact How2
      iexact How3
    isplitl [Hrx0 Hrx1 Hrx2 Hrx3]
    · isplitl [Hrx0]; · iexact Hrx0
      isplitl [Hrx1]; · iexact Hrx1
      isplitl [Hrx2]; · iexact Hrx2
      iexact Hrx3
    isplitl [Hlo0 Hlo1 Hlo2 Hlo3]
    · isplitl [Hlo0]; · iexact Hlo0
      isplitl [Hlo1]; · iexact Hlo1
      isplitl [Hlo2]; · iexact Hlo2
      iexact Hlo3
    isplitl [Hsd]; · iexact Hsd
    isplitl [HG]; · iexact HG
    isplitl [Hoh0 Hoh1 Hoh2 Hoh3 Hoi0 Hoi1 Hoi2 Hoi3]
    · isplitl [Hoh0 Hoi0]
      · iapply owns_unhalve
        isplitl [Hoh0]; · iexact Hoh0
        iexact Hoi0
      isplitl [Hoh1 Hoi1]
      · iapply owns_unhalve
        isplitl [Hoh1]; · iexact Hoh1
        iexact Hoi1
      isplitl [Hoh2 Hoi2]
      · iapply owns_unhalve
        isplitl [Hoh2]; · iexact Hoh2
        iexact Hoi2
      iapply owns_unhalve
      isplitl [Hoh3]; · iexact Hoh3
      iexact Hoi3
    isplitl [Hoy0 Hoy1 Hoy2 Hoy3]
    · isplitl [Hoy0]; · iexact Hoy0
      isplitl [Hoy1]; · iexact Hoy1
      isplitl [Hoy2]; · iexact Hoy2
      iexact Hoy3
    isplitl [Hoz0 Hoz1 Hoz2 Hoz3]
    · isplitl [Hoz0]; · iexact Hoz0
      isplitl [Hoz1]; · iexact Hoz1
      isplitl [Hoz2]; · iexact Hoz2
      iexact Hoz3
    isplitl [Hod0]; · iexact Hod0
    isplitl [Hod1]; · iexact Hod1
    isplitl [Hod2]; · iexact Hod2
    iexact Hod3
  iexact HO

/-- Every transfer cell of device `c`, at zero. -/
def quiet (c : Dev nD) : sProp 𝕄 := bigSep Finset.univ (fun j : Fin 37 => semVal (cell c (osem j)) 0)

theorem closed_all (K : GSem nD τ sig → ℕ) (c : Dev nD) :
    iprop(records m K ∗ (pos c barL 1 ∗ poss c 1)) ⊢ (|={Set.univ}=> (semVal (cell c barL) 0 ∗ quiet c) : sProp 𝕄) := by
  have h : iprop(records m K ∗ poss c 1) ⊢ (|={Set.univ}=> quiet c : sProp 𝕄) := by
    unfold poss quiet
    refine BIBase.Entails.trans (bigSep_with_persistent (R := records m K) (Φ := fun j : Fin 37 => (pos c (osem j) 1 : sProp 𝕄))
      (Ψ := fun j : Fin 37 => (iprop(|={Set.univ}=> semVal (cell c (osem j)) 0) : sProp 𝕄)) fun j _ => ?_) (bigSep_fupd _ _)
    have h1 : iprop(records m K ∗ pos c (osem j) 1) ⊢ (|={Set.univ}=> semVal (cell c (osem j)) 0 : sProp 𝕄) := by
      iintro ⟨#Hr, Hp⟩
      iapply (close m (K (cell c (osem j))) (cell c (osem j)))
      isplitr; · iapply (inv_sc m K c j); iexact Hr
      iexact Hp
    exact h1
  iintro ⟨#Hr, HB, HP⟩
  imod (close m (K (cell c barL)) (cell c barL)) $$ [HB] with HB
  · isplitr; · iapply (inv_bar m K c); iexact Hr
    iexact HB
  imod h $$ [HP] with HP
  · isplitr; · iexact Hr
    iexact HP
  imodintro
  isplitl [HB]; · iexact HB
  iexact HP

theorem opened_all (K : GSem nD τ sig → ℕ) (c : Dev nD) :
    iprop(records m K ∗ bigSep Finset.univ (fun j : Fin 37 => (openTok ER (cell c (osem j)) : sProp 𝕄)) ∗ quiet c) ⊢ (|={Set.univ}=> (poss c 0 ∗ opened c) : sProp 𝕄) := by
  have h : iprop(records m K ∗ bigSep Finset.univ (fun j : Fin 37 => (iprop(openTok ER (cell c (osem j)) ∗ semVal (cell c (osem j)) 0) : sProp 𝕄)))
      ⊢ (|={Set.univ}=> bigSep Finset.univ (fun j : Fin 37 => (iprop(pos c (osem j) 0 ∗ reached ER (cell c (osem j)) 0) : sProp 𝕄)) : sProp 𝕄) := by
    refine BIBase.Entails.trans (bigSep_with_persistent (R := records m K) (Φ := fun j : Fin 37 => (iprop(openTok ER (cell c (osem j)) ∗ semVal (cell c (osem j)) 0) : sProp 𝕄))
      (Ψ := fun j : Fin 37 => (iprop(|={Set.univ}=> (pos c (osem j) 0 ∗ reached ER (cell c (osem j)) 0)) : sProp 𝕄)) fun j _ => ?_) (bigSep_fupd _ _)
    have h1 : iprop(records m K ∗ (openTok ER (cell c (osem j)) ∗ semVal (cell c (osem j)) 0)) ⊢ (|={Set.univ}=> (pos c (osem j) 0 ∗ reached ER (cell c (osem j)) 0) : sProp 𝕄) := by
      iintro ⟨#Hr, Ho, Hv⟩
      iapply (Rounds.cell_open ER (talkRd m) (g := cell c (osem j)) (Set.mem_univ (K (cell c (osem j)))))
      isplitr; · iapply (inv_sc m K c j); iexact Hr
      isplitl [Ho]; · iexact Ho
      iexact Hv
    exact h1
  unfold quiet poss opened
  iintro ⟨#Hr, Ho, Hq⟩
  imod h $$ [Ho Hq] with H
  · isplitr; · iexact Hr
    iapply zip_sep
    isplitl [Ho]; · iexact Ho
    iexact Hq
  imodintro
  iapply unzip_sep $$ H

end Cert.Talk

end
-- ==== Proof.Region.lean ====
/-
  The kernel's region: what a device holds when its body starts and when it ends, the body's obligation, and the region as
  a segment of the program.
-/
module

public import proofs.«01_k».proof.Proof.Deal
public import proofs.«01_k».proof.Proof.Gen.KernelIdeal.Frame

@[expose] public section

noncomputable section

namespace Cert.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ)

/-! ## Buffers -/

/-- The buffers of a device that are not scoped, and the two arguments among them. -/
abbrev bufs : Finset (DevRef τ sig) := (StableHlo.tcRefs τ sig).filter fun b => ¬ b.isScoped
abbrev argBufs : Finset (DevRef τ sig) := {Proc.devRef .tc main_arg0, Proc.devRef .tc main_arg1}

/-- The buffers after the region: the result written. -/
def V₂ (c : Dev nD) : Valuation τ sig (Elt F) := Function.update (V₁ m c) (Proc.devRef .tc main_v2) (outv m c)
theorem V₂_out (c : Dev nD) : V₂ m c (Proc.devRef .tc main_v2) = outv m c := by unfold V₂; exact Function.update_self ..
theorem V₂_ne (c : Dev nD) (b : DevRef τ sig) (h : b ≠ Proc.devRef .tc main_v2) : V₂ m c b = V₁ m c b := by
  unfold V₂; exact Function.update_of_ne h ..
theorem V₁_arg0 (c : Dev nD) : V₁ m c (Proc.devRef .tc main_arg0) = m ((c : Thread nD τ).loc main_arg0) := V_main_arg0 m c
theorem V₁_arg1 (c : Dev nD) : V₁ m c (Proc.devRef .tc main_arg1) = m ((c : Thread nD τ).loc main_arg1) := V_main_arg1 m c

/-- The two arguments of device `c`, as launched. -/
def args (c : Dev nD) : sProp 𝕄 :=
  iprop((((c : Thread nD τ).loc main_arg0) ↦{fullShare} m ((c : Thread nD τ).loc main_arg0))
    ∗ (((c : Thread nD τ).loc main_arg1) ↦{fullShare} m ((c : Thread nD τ).loc main_arg1)))

theorem argBufs_eq (c : Dev nD) (W : Valuation τ sig (Elt F)) (h0 : W (Proc.devRef .tc main_arg0) = m ((c : Thread nD τ).loc main_arg0))
    (h1 : W (Proc.devRef .tc main_arg1) = m ((c : Thread nD τ).loc main_arg1)) :
    (StableHlo.held (c : Thread nD τ) argBufs W : sProp 𝕄) = args m c := by
  unfold StableHlo.held args
  rw [bigSep_eq_bigSepL_of_eq [Proc.devRef .tc main_arg0, Proc.devRef .tc main_arg1] (by decide) (by decide), ← h0, ← h1]
  rfl

/-- The three scratch buffers, at contents not chosen. -/
def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f))

theorem whole_owns (c : Dev nD) {sh : Shape} (M : Memref sig .tc .vmem sh .f32) (hM : M.view.set = Finset.univ)
    (f : M.view.ty.Contents (Elt F)) :
    (M.view.loc (c : Thread nD τ) ↦{fullShare} f : sProp 𝕄) = owns (c : Thread nD τ) M fullShare (M.view.read (Elt F) f) := by
  rw [owns_read, hM]
theorem owns_some (c : Dev nD) {sh : Shape} (M : Memref sig .tc .vmem sh .f32) (hM : M.view.set = Finset.univ) (X : sh.Idx → Elt F .f32) :
    (owns (c : Thread nD τ) M fullShare X : sProp 𝕄) ⊢ iprop(∃ f : Buf (Elt F) (M.view.loc (c : Thread nD τ)), M.view.loc (c : Thread nD τ) ↦{fullShare} f) := by
  unfold owns
  rw [hM]
  iintro ⟨%f, -, H⟩
  iexists f
  iexact H

/-! ## The region's data -/

/-- What the body is given beside its stages: the protocol's state and the arguments. -/
def X1 (c : Dev nD) : sProp 𝕄 := iprop((∃ K, base m K c ∗ dealt c) ∗ args m c)
/-- What it gives back: the barrier cell at zero, and the arguments. -/
def Y1 (c : Dev nD) : sProp 𝕄 := iprop(semVal (cell c barL) 0 ∗ args m c)

def dat (c : Dev nD) : Dat τ (Elt F) Unit ℕ UU ℕ cfg0 c where
  A w := V m c (Pipeline.arrRef spec0 w)
  after := fun w => match w with
    | ⟨0, _⟩ => iblk m c 0
    | ⟨1, _⟩ => fun _ => outv m c
    | ⟨_ + 2, h⟩ => absurd h (Nat.not_lt.2 (Nat.le_add_left _ _))
  Φ t := if t.val = 0 then iprop(X1 m c ∗ scratch c ∗ ∃ r, prngReg c r) else iprop(Y1 m c ∗ quiet c ∗ scratch c ∗ ∃ r, prngReg c r)
  q _ := fullShare
  owed t := if t.val = 0 then due c 0 else 0

/-- Each window's one block is its whole array: reading it reads the array. -/
theorem blk_read0 (f : main_v1.ty.Contents (Elt F)) : ((cfg0.win 0).blk t0_0).view.read (Elt F) f = f := by
  have hz : (fun a => (win0_0.index t0_0) a * main_v1.ty.shape.size a) = fun _ => 0 := funext fun a => by fin_cases a <;> decide
  exact Memref.read_access_unit_zero (Elt F) main_v1 hz (fun a => by fin_cases a <;> decide) f
theorem blk_read1 (f : main_v2.ty.Contents (Elt F)) : ((cfg0.win 1).blk t0_0).view.read (Elt F) f = f := by
  have hz : (fun a => (win0_1.index t0_0) a * main_v2.ty.shape.size a) = fun _ => 0 := funext fun a => by fin_cases a <;> decide
  exact Memref.read_access_unit_zero (Elt F) main_v2 hz (fun a => by fin_cases a <;> decide) f

theorem iblk_gam (c : Dev nD) (t : Fin cfg0.N) : iblk m c 0 t = gam m c := by
  obtain rfl := fin_N0 t
  exact blk_read0 (F := F) (V m c main_v1)

theorem before_gam (c : Dev nD) (t : Fin cfg0.N) (d) : (dat m c).before 0 t d = gam m c :=
  (((dat m c).before_in_eq_fetched 0 rfl (fun _ => rfl) (fun _ _ _ => rfl) (fun t => by rfl) t d).trans (by rfl : _ = iblk m c 0 t)).trans (iblk_gam m c t)

/-! ## The body's obligation -/

theorem owed_first (c : Dev nD) : (dat m c).owed t0_0.castSucc = due c 0 := by
  show (if (t0_0.castSucc : Fin (cfg0.N + 1)).val = 0 then due c 0 else 0) = due c 0; exact if_pos rfl
theorem owed_next (c : Dev nD) : (dat m c).owed t0_0.succ = 0 := by
  show (if (t0_0.succ : Fin (cfg0.N + 1)).val = 0 then due c 0 else 0) = 0; exact if_neg (by decide)
theorem owed_last (c : Dev nD) : (dat m c).owed (Fin.last cfg0.N) = 0 := by
  show (if (Fin.last cfg0.N).val = 0 then due c 0 else 0) = 0
  exact if_neg (by decide)

theorem owes_in (c : Dev nD) : ((dat m c).owesAt () t0_0.castSucc : sProp 𝕄) ⊢ OW c 0 := by
  unfold Dat.owesAt Pipeline.owesWithin OW; rw [owed_first]
  iintro ⟨%W, -, HO⟩; iexists W; iexact HO
theorem owes_out (c : Dev nD) : OW c 19 ⊢ ((dat m c).owesAt () t0_0.succ : sProp 𝕄) := by
  unfold Dat.owesAt Pipeline.owesWithin Dat.bound OW; rw [owed_next, due_done]
  iintro ⟨%W, HO⟩; iexists W; isplitr; · ipureintro; exact fun _ _ => Or.inl trivial
  iexact HO

/-- The scratch buffers cut into the pieces the body uses. -/
theorem scratch_carve (c : Dev nD) : (scratch c : sProp 𝕄)
    ⊢ iprop((anyOf c (rcvM 0) ∗ anyOf c (rcvM 1) ∗ anyOf c (rcvM 2) ∗ anyOf c (rcvM 3))
      ∗ (anyOf c (locM 0) ∗ anyOf c (locM 1) ∗ anyOf c (locM 2) ∗ anyOf c (locM 3)) ∗ anyOf c sndM) := by
  unfold scratch
  iintro ⟨⟨%f0, H0⟩, ⟨%f1, H1⟩, ⟨%f2, H2⟩⟩
  isplitl [H0]
  · iapply (rcv_carve c _)
    iapply (BIBase.Entails.of_eq (whole_owns c (Memref.whole cc0_scratch0) (View.set_whole _) f0)) $$ H0
  isplitl [H1]
  · iapply (loc_carve c _)
    iapply (BIBase.Entails.of_eq (whole_owns c (Memref.whole cc0_scratch1) (View.set_whole _) f1)) $$ H1
  iapply (any_intro c sndM _)
  iapply (BIBase.Entails.of_eq (whole_owns c sndM (View.set_whole _) f2)) $$ H2

/-- And back. -/
theorem scratch_glue (c : Dev nD) (R L : Fin 4 → S64x1024.Idx → Elt F .f32) (S : S64x1024.Idx → Elt F .f32) :
    iprop((owns (c : Thread nD τ) (rcvM 0) fullShare (R 0) ∗ owns (c : Thread nD τ) (rcvM 1) fullShare (R 1)
        ∗ owns (c : Thread nD τ) (rcvM 2) fullShare (R 2) ∗ owns (c : Thread nD τ) (rcvM 3) fullShare (R 3))
      ∗ (owns (c : Thread nD τ) (locM 0) fullShare (L 0) ∗ owns (c : Thread nD τ) (locM 1) fullShare (L 1)
        ∗ owns (c : Thread nD τ) (locM 2) fullShare (L 2) ∗ owns (c : Thread nD τ) (locM 3) fullShare (L 3))
      ∗ owns (c : Thread nD τ) sndM fullShare S) ⊢ (scratch c : sProp 𝕄) := by
  unfold scratch
  iintro ⟨H0, H1, H2⟩
  isplitl [H0]
  · iapply (owns_some c (Memref.whole cc0_scratch0) (View.set_whole _) _)
    iapply (rcv_glue c R) $$ H0
  isplitl [H1]
  · iapply (owns_some c (Memref.whole cc0_scratch1) (View.set_whole _) _)
    iapply (loc_glue c L) $$ H1
  iapply (owns_some c sndM (View.set_whole _) S) $$ H2

/-- What the body starts with, cut as it uses it; the argument's other elements stay aside. -/
theorem found_intro (c : Dev nD) (Y : S1024x1024.Idx → Elt F .f32) :
    iprop(args m c ∗ scratch c ∗ owns (c : Thread nD τ) (Memref.whole cc0_stg0_0) fullShare (gam m c)
        ∗ owns (c : Thread nD τ) (Memref.whole cc0_stg1_0) fullShare Y)
      ⊢ iprop(found m c ∗ argRest m c ∗ (((c : Thread nD τ).loc main_arg1) ↦{fullShare} m ((c : Thread nD τ).loc main_arg1))) := by
  unfold args found
  rw [arg_carve]
  iintro ⟨⟨⟨⟨Hs, Ho⟩, Hr⟩, H1⟩, Hsc, HG, HY⟩
  ihave Hsc := (scratch_carve c) $$ Hsc
  icases Hsc with ⟨HR, HL, HS⟩
  ihave HY := (out_carve c Y) $$ HY
  isplitr [Hr H1]
  · isplitl [Hs]; · iexact Hs
    isplitl [Ho]; · iexact Ho
    isplitl [HR]; · iexact HR
    isplitl [HL]; · iexact HL
    isplitl [HS]; · iexact HS
    isplitl [HG]; · iexact HG
    iexact HY
  isplitl [Hr]; · iexact Hr
  iexact H1

/-- What it ends with, put together again. -/
theorem left_elim (c : Dev nD) :
    iprop(left m c ∗ argRest m c ∗ (((c : Thread nD τ).loc main_arg1) ↦{fullShare} m ((c : Thread nD τ).loc main_arg1)))
      ⊢ iprop(args m c ∗ scratch c ∗ owns (c : Thread nD τ) (Memref.whole cc0_stg0_0) fullShare (gam m c)
        ∗ owns (c : Thread nD τ) (Memref.whole cc0_stg1_0) fullShare (outv m c)) := by
  unfold args left
  rw [arg_carve]
  iintro ⟨⟨Hs, Ho, HR, HL, HS, HG, HY⟩, Hr, H1⟩
  isplitl [Hs Ho Hr H1]
  · isplitl [Hs Ho Hr]
    · isplitl [Hs Ho]
      · isplitl [Hs]; · iexact Hs
        iexact Ho
      iexact Hr
    iexact H1
  isplitl [HR HL HS]
  · iapply (scratch_glue c (fun k => snd m (pX c) k) (fun k => own m c k) (snd m c 0))
    isplitl [HR]; · iexact HR
    isplitl [HL]; · iexact HL
    iexact HS
  isplitl [HG]; · iexact HG
  iapply (out_glue m c) $$ HY

theorem body (c : Dev nD) : BodyObligation (dat m c) defs₀ 𝒱₀ () Set.univ := fun t => by
  obtain rfl := fin_N0 t
  rw [bigSep_W0, bigSep_W0]
  rw [show (dat m c).Φ t0_0.castSucc = iprop(X1 m c ∗ scratch c ∗ ∃ r, prngReg c r) from rfl,
    show (dat m c).Φ t0_0.succ = iprop(Y1 m c ∗ quiet c ∗ scratch c ∗ ∃ r, prngReg c r) from rfl]
  have h : iprop((X1 m c ∗ scratch c ∗ ∃ r, prngReg c r) ∗ (dat m c).owesAt () t0_0.castSucc
        ∗ (∃ d, owns (c : Thread nD τ) (Memref.whole cc0_stg0_0) fullShare ((dat m c).before 0 t0_0 d))
        ∗ (∃ d, owns (c : Thread nD τ) (Memref.whole cc0_stg1_0) fullShare ((dat m c).before 1 t0_0 d)))
      ⊢ run c (bodyAt0 t0_0) (fun _ => iprop((Y1 m c ∗ quiet c ∗ scratch c ∗ ∃ r, prngReg c r) ∗ (dat m c).owesAt () t0_0.succ
        ∗ owns (c : Thread nD τ) (Memref.whole cc0_stg0_0) fullShare (gam m c)
        ∗ owns (c : Thread nD τ) (Memref.whole cc0_stg1_0) fullShare (outv m c))) := by
    refine BIBase.Entails.trans ?_ (wp_fupd _ _ _ _ _)
    unfold X1 Y1
    iintro ⟨⟨⟨⟨%K, #Hb, Hdl⟩, Hargs⟩, Hsc, Hreg⟩, HO, ⟨%d0, HG⟩, ⟨%d1, HY⟩⟩
    ihave HG := (BIBase.Entails.of_eq (congrArg (fun X => (owns (c : Thread nD τ) (Memref.whole cc0_stg0_0) fullShare X : sProp 𝕄)) (before_gam m c t0_0 d0))) $$ HG
    ihave HO := (owes_in m c) $$ HO
    ihave Hf := (found_intro m c ((dat m c).before 1 t0_0 d1)) $$ [Hargs Hsc HG HY]
    · isplitl [Hargs]; · iexact Hargs
      isplitl [Hsc]; · iexact Hsc
      isplitl [HG]; · iexact HG
      iexact HY
    icases Hf with ⟨Hf, Hr, H1⟩
    ihave Hst := (start_join m c) $$ [Hdl Hf HO]
    · isplitl [Hdl]; · iexact Hdl
      isplitl [Hf]; · iexact Hf
      iexact HO
    iapply (body_run m K c (Memref.isWhole_whole _) (hstage0_0 0) (hstage0_1 0) (Memref.isWhole_whole _) (Memref.isWhole_whole _) (Memref.isWhole_whole _)) $$ [Hst]
    · isplitr; · iexact Hb
      iexact Hst
    iintro Hfin
    ihave Hfin := (finish_split m c) $$ Hfin
    icases Hfin with ⟨Hpos, Hl, HO⟩
    imod (closed_all m K c) $$ [Hpos] with ⟨HB, HQ⟩
    · isplitr
      · unfold base; icases Hb with ⟨Hrec, -⟩; iexact Hrec
      iexact Hpos
    imodintro
    ihave Hl := (left_elim m c) $$ [Hl Hr H1]
    · isplitl [Hl]; · iexact Hl
      isplitl [Hr]; · iexact Hr
      iexact H1
    icases Hl with ⟨Hargs, Hsc, HG, HY⟩
    isplitl [HB Hargs HQ Hsc Hreg]
    · isplitl [HB Hargs]
      · isplitl [HB]; · iexact HB
        iexact Hargs
      isplitl [HQ]; · iexact HQ
      isplitl [Hsc]; · iexact Hsc
      iexact Hreg
    isplitl [HO]; · iapply (owes_out m c) $$ HO
    isplitl [HG]; · iexact HG
    iexact HY
  rw [← iblk_gam m c t0_0] at h
  exact h

end Cert.Talk

end
-- ==== Proof.Run.lean ====
/-
  The run: the program's two segments, the launch that funds every cell and deals every right and credit, and what every
  execution from any launch memory ends with.
-/
module

public import proofs.«01_k».proof.Proof.Region

@[expose] public section

noncomputable section

namespace Cert.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## The segments -/

abbrev adm : (p : Fin 1) → (pcfgs (F := F) p).Adm := fun p => (cfgs p).toPCfg_adm
def pdats : (p : Fin 1) → (c : Dev nD) → Dat τ (Elt F) Unit ℕ UU ℕ (Pipeline.pin (pcfgs (F := F)) adm p) c
  | ⟨0, _⟩ => dat m
  | ⟨_ + 1, h⟩ => absurd h (Nat.not_lt.2 (Nat.le_add_left _ _))

local notation "ℍ" => Pipeline.HostSeg (Name := ℕ) (U := UU) (pcfgs (F := F)) defs₀ 𝒱₀ L lv
local notation "ℝ𝕊" => Pipeline.RegionSeg (pcfgs (F := F)) adm (pdats m) () defs₀ 𝒱₀ L lv

/-- A device's protocol state before the region. -/
def Tk (c : Dev nD) : sProp 𝕄 :=
  iprop((∃ K, records m K ∗ (myToks c ∗ pos c barL 0 ∗ bigSep Finset.univ (fun j : Fin 37 => openTok ER (cell c (osem j))))) ∗ creds c)
/-- The same when the region's semaphores are there. -/
def Xk (c : Dev nD) : sProp 𝕄 := iprop(∃ K, base m K c ∗ dealt c)
def Yk (c : Dev nD) : sProp 𝕄 := semVal (cell c barL) 0

theorem hopen (c : Dev nD) : iprop(Tk m c ∗ Pipeline.ownSems0 osem c ∗ levAts L lv) ⊢ (|={Set.univ}=> Xk m c : sProp 𝕄) := by
  unfold Tk Xk base dealt Pipeline.ownSems0
  iintro ⟨⟨⟨%K, #Hr, Ht, HB, Ho⟩, Hc⟩, Hs, #Hl⟩
  imod (opened_all m K c) $$ [Ho Hs] with ⟨HP, #Hop⟩
  · isplitr; · iexact Hr
    isplitl [Ho]; · iexact Ho
    unfold quiet; iexact Hs
  imodintro
  iexists K
  isplitr
  · isplitr; · iexact Hr
    isplitr; · iexact Hop
    iexact Hl
  isplitl [Ht]; · iexact Ht
  isplitl [HB]; · iexact HB
  isplitl [HP]; · iexact HP
  iexact Hc

theorem hin (c : Dev nD) : iprop(Pipeline.scopedRest (Pipeline.pin (pcfgs (F := F)) adm 0).spec c ∗ (∃ r, prngReg c r) ∗ StableHlo.held (c.tc : Thread nD τ) argBufs (V₁ m c) ∗ Xk m c)
    ⊢ (pdats m 0 c).Φ 0 := by
  rw [show (pdats m 0 c).Φ 0 = iprop(X1 m c ∗ scratch c ∗ ∃ r, prngReg c r) from rfl, argBufs_eq m c (V₁ m c) (V₁_arg0 m c) (V₁_arg1 m c),
    show (Pipeline.scopedRest (Pipeline.pin (pcfgs (F := F)) adm 0).spec c : sProp 𝕄) = scratch c from scopedRest0_eq c]
  unfold X1 Xk
  iintro ⟨Hs, Hp, Ha, HK⟩
  isplitl [HK Ha]
  · isplitl [HK]; · iexact HK
    iexact Ha
  isplitl [Hs]; · iexact Hs
  iexact Hp

theorem hout (c : Dev nD) : (pdats m 0 c).Φ (Fin.last (Pipeline.pin (pcfgs (F := F)) adm 0).N)
    ⊢ iprop(Pipeline.scopedRest (Pipeline.pin (pcfgs (F := F)) adm 0).spec c ∗ (∃ r, prngReg c r) ∗ StableHlo.held (c.tc : Thread nD τ) argBufs (V₂ m c) ∗ Pipeline.ownSems0 osem c ∗ Yk c) := by
  rw [show (pdats m 0 c).Φ (Fin.last _) = iprop(Y1 m c ∗ quiet c ∗ scratch c ∗ ∃ r, prngReg c r) from rfl,
    argBufs_eq m c (V₂ m c) ((V₂_ne m c _ (by decide)).trans (V₁_arg0 m c)) ((V₂_ne m c _ (by decide)).trans (V₁_arg1 m c)),
    show (Pipeline.scopedRest (Pipeline.pin (pcfgs (F := F)) adm 0).spec c : sProp 𝕄) = scratch c from scopedRest0_eq c]
  unfold Y1 Yk quiet Pipeline.ownSems0
  iintro ⟨⟨HB, Ha⟩, Hq, Hs, Hp⟩
  isplitl [Hs]; · iexact Hs
  isplitl [Hp]; · iexact Hp
  isplitl [Ha]; · iexact Ha
  isplitl [Hq]; · iexact Hq
  iexact HB

theorem cut (c : Dev nD) (t : Fin ((Pipeline.pin (pcfgs (F := F)) adm 0).N + 1)) (g : GSem nD τ sig) (i : Unit) (h : 0 < (pdats (F := F) m 0 c).owed t g i) :
    i ∈ L g ∧ (0 : ℕ) < lv g i := by
  have e : (pdats (F := F) m 0 c).owed t = if t.val = 0 then due c 0 else 0 := rfl
  rw [e] at h
  split at h
  · obtain ⟨p, hp, rfl⟩ := dueL_pos c _ g i h
    refine ⟨by rw [L_tc]; exact Finset.mem_singleton_self _, ?_⟩
    show 0 < lvl p.2
    have : ∀ p ∈ sched.drop 0, 0 < lvl p.2 := by
      unfold sched
      simp only [List.drop_zero, List.forall_mem_cons, List.not_mem_nil, false_imp_iff, forall_const]
      refine ⟨?_, ?_, ?_, ?_, ?_, ?_, ?_, ?_, ?_, ?_, ?_, ?_, ?_, ?_, ?_, ?_, ?_, ?_, ?_, ?_⟩ <;> first | trivial | decide
    exact this p hp
  · exact absurd h (Nat.lt_irrefl 0)

theorem osem_facts : Pipeline.OwnSemFacts spec0 osem := by decide

theorem arr_first (c : Dev nD) (w : Fin 2) : (dat m c).arrAt w 0 = V m c (Pipeline.arrRef spec0 w) := rfl
theorem arr_gam (c : Dev nD) : (dat m c).arrAt 0 cfg0.N = V₂ m c (Proc.devRef .tc main_v1) :=
  ((dat m c).arrAt_in (0 : Fin 2) rfl _).trans (V₂_ne m c _ (by decide)).symm
theorem arr_out (c : Dev nD) : (dat m c).arrAt 1 cfg0.N = V₂ m c (Proc.devRef .tc main_v2) := by
  rw [V₂_out]
  have h : ((cfg0.win 1).blk t0_0).view.read (Elt F) ((dat m c).arrAt 1 cfg0.N) = outv m c := by
    rw [show cfg0.N = (t0_0 : Fin cfg0.N).val + 1 from rfl, (dat m c).arrAt_succ (1 : Fin 2) t0_0, if_pos (flush0_1 t0_0)]
    exact View.read_write_univ _ _
  exact (blk_read1 (F := F) _).symm.trans h

set_option backward.isDefEq.respectTransparency.types false in
def reg : ℝ𝕊 0 :=
  Pipeline.RegionSeg.ofTalk (pcfgs (F := F)) adm (pdats m) () defs₀ 𝒱₀ L lv 0 osem osem_facts
    argBufs argBufs (Finset.Subset.refl _) launch0.toP rfl (fun c => (body m c).loose)
    (fun _ => 0) (fun c => due c 0) (fun c => ((owed_first m c) : (pdats m 0 c).owed 0 = due c 0).trans (zero_add _).symm) (owed_last m) (fun _ => rfl)
    (fun c w => by
      show (dat m c).share w = fullShare
      exact (dat m c).share_full (fun _ => rfl) w)
    (V₁ m) (V₂ m) (fun _ b hb => absurd hb (by rw [Finset.sdiff_self]; exact Finset.notMem_empty b))
    (Tk m) Yk (Xk m) Yk (hopen m) (hin m) (hout m)
    (fun c => by iintro H; imodintro; iexact H)
    (fun _ => 0)
    ⟨fun c w s => by rw [L_tc]; exact Finset.mem_singleton_self _,
      fun c w s => by
        match w with
        | 0 => exact Nat.le_refl _
        | 1 => exact Nat.le_refl _,
      fun c t g i h => cut m c t g i h⟩
    (fun _ => iprop(emp))
    (fun c w => by
      match w with
      | 0 => rfl
      | 1 => rfl)
    (fun c w => by
      match w with
      | 0 => exact arr_gam m c
      | 1 => exact arr_out m c)

/-! ## The two segments joined -/

/-- What rides beside the buffers up to the region: the protocol's state, the register, and what the device owes. -/
def R (c : Dev nD) : sProp 𝕄 := iprop((Tk m c ∗ ∃ r, prngReg c r) ∗ OW c 0)

/-- The host segment: the reshape of gamma. -/
def seg0 : ℍ := Pipeline.HostSeg.ofOps _ _ _ _ _ bufs hostOps0
  (fun op h => by
    simp only [hostOps0, List.mem_singleton] at h; subst h
    show ({Proc.devRef .tc main_arg1, Proc.devRef .tc main_v1} : Finset (DevRef τ sig)) ⊆ bufs; decide)
  (List.forall_iff_forall_mem.mp hostOps0_fresh) (V₀ m) (R m)

/-- The buffers split into the windows' arrays and the arguments. -/
theorem bufs_split (c : Dev nD) (W : Valuation τ sig (Elt F)) : (StableHlo.held (c : Thread nD τ) bufs W : sProp 𝕄)
    = iprop(StableHlo.held (c : Thread nD τ) (Pipeline.arrRefs (τ := τ) spec0) W ∗ StableHlo.held (c : Thread nD τ) argBufs W) := by
  rw [StableHlo.held_sub_split (c : Thread nD τ) (show Pipeline.arrRefs (τ := τ) spec0 ⊆ bufs by decide) W,
    show bufs \ Pipeline.arrRefs (τ := τ) spec0 = argBufs by decide]

theorem reg_pre (c : Dev nD) : iprop(StableHlo.held (c : Thread nD τ) bufs (V₁ m c) ∗ R m c) ⊢ (reg m).pre c := by
  show _ ⊢ iprop(StableHlo.held (c.tc : Thread nD τ) (Pipeline.arrRefs (τ := τ) spec0) (V₁ m c) ∗ (∃ r, prngReg c r)
    ∗ (StableHlo.held (c.tc : Thread nD τ) argBufs (V₁ m c) ∗ emp) ∗ Tk m c ∗ ∃ Wd, owes (c : Thread nD τ) (0 + due c 0) Wd)
  rw [bufs_split, zero_add]
  unfold R OW
  iintro ⟨⟨Ha, Hh⟩, ⟨HK, Hp⟩, HO⟩
  isplitl [Ha]; · iexact Ha
  isplitl [Hp]; · iexact Hp
  isplitl [Hh]
  · isplitl [Hh]; · iexact Hh
    iempintro
  isplitl [HK]; · iexact HK
  iexact HO

theorem reg_post (c : Dev nD) : (reg m).post c
    ⊢ iprop((StableHlo.held (c : Thread nD τ) bufs (V₂ m c) ∗ semVal (cell c barL) 0) ∗ ∃ W, owes (c : Thread nD τ) (0 : CellTallies nD τ sig Unit) W) := by
  show iprop(StableHlo.held (c.tc : Thread nD τ) (Pipeline.arrRefs (τ := τ) spec0) (V₂ m c) ∗ (∃ r, prngReg c r)
    ∗ (StableHlo.held (c.tc : Thread nD τ) argBufs (V₂ m c) ∗ emp) ∗ Yk c ∗ ∃ Wd, owes (c : Thread nD τ) (0 : CellTallies nD τ sig Unit) Wd) ⊢ _
  rw [bufs_split]
  unfold Yk
  iintro ⟨Ha, -, ⟨Hh, -⟩, Hb, HO⟩
  isplitl [Ha Hh Hb]
  · isplitl [Ha Hh]
    · isplitl [Ha]; · iexact Ha
      iexact Hh
    iexact Hb
  iexact HO

/-! ## The launch -/

theorem unscopedBufs_held (c : Dev nD) (W : Valuation τ sig (Elt F)) :
    (unscopedBufs c (fun b => W b) : sProp 𝕄) = StableHlo.held (c : Thread nD τ) bufs W := by
  unfold unscopedBufs StableHlo.held bufs StableHlo.tcRefs
  rw [Finset.filter_map, BI.bigSep_map]
  rfl

theorem unscoped_bar : ∀ sm : SemLoc sig, sm.isScoped .tc = false → sm = barL := by decide
theorem unscopedSems0_eq (c : Dev nD) : (unscopedSems0 c : sProp 𝕄) = semVal (cell c barL) 0 := by
  unfold unscopedSems0
  rw [show (Finset.univ.filter fun sm : SemLoc sig => ¬ sm.isScoped .tc) = {barL} from by decide, BI.bigSep_singleton]

theorem disjoint_cells : Disjoint barCells scCells := by
  rw [Finset.disjoint_left]
  rintro g h₁ h₂
  obtain ⟨c, -, rfl⟩ := Finset.mem_map.mp h₁
  obtain ⟨ck, -, h⟩ := Finset.mem_map.mp h₂
  have h' : osem ck.2 = barL := congrArg Prod.snd h
  exact absurd h' (by simp)

/-- The launch element: the pipeline's and the protocol's. -/
def u₀ : UU :=
  (initOf (Pipeline.cells (Pipeline.pin (pcfgs (F := F)) adm) cellOf_inj) (Pipeline.launchToks (Pipeline.pin (pcfgs (F := F)) adm) cellOf_inj),
    launchOf barCells scCells talkToks)

/-- A resource put on device `0` until it is dealt. -/
def at0 (X : sProp 𝕄) (c : Dev nD) : sProp 𝕄 := if c = 0 then X else iprop(emp)
theorem bigSep_at0 (X : sProp 𝕄) : bigSep Finset.univ (at0 X) = X := by
  rw [bigSep_univ_at _ (0 : Dev nD), bigSep_congr (s := Finset.univ.erase (0 : Dev nD)) (Ψ := fun _ => (BI.emp : sProp 𝕄))
      fun c hc => by unfold at0; rw [if_neg (Finset.ne_of_mem_erase hc)]; rfl, BI.bigSep_emp_const]
  unfold at0; rw [if_pos rfl]
  exact BI.equiv_iff.mp sep_emp
def G : Dev nD → sProp 𝕄 := at0 (BI.own (ER (launchOf barCells scCells talkToks)))

abbrev T₀ (c : Dev nD) : sProp 𝕄 := iprop(StableHlo.held (c : Thread nD τ) bufs (V₀ m c) ∗ R m c)
abbrev Tₙ (c : Dev nD) : sProp 𝕄 := iprop(StableHlo.held (c : Thread nD τ) bufs (V₂ m c) ∗ semVal (cell c barL) 0)

/-- What stays with a device of what the launch deals. -/
def linear (c : Dev nD) : sProp 𝕄 := iprop(myToks c ∗ pos c barL 0 ∗ bigSep Finset.univ (fun j : Fin 37 => openTok ER (cell c (osem j))))
/-- The rest of its launch holdings. -/
def bundle (c : Dev nD) : sProp 𝕄 :=
  iprop(StableHlo.held (c : Thread nD τ) bufs (V₀ m c) ∗ creds c ∗ OW c 0 ∗ ∃ r, prngReg c r)

theorem T₀_intro (K : GSem nD τ sig → ℕ) (c : Dev nD) : iprop(records m K ∗ (linear c ∗ bundle m c)) ⊢ T₀ m c := by
  unfold bundle linear T₀ R Tk
  iintro ⟨#HR, Hl, Hh, Hc, HO, Hp⟩
  isplitl [Hh]; · iexact Hh
  isplitr [HO]
  · isplitr [Hp]
    · isplitr [Hc]
      · iexists K
        isplitr; · iexact HR
        iexact Hl
      iexact Hc
    iexact Hp
  iexact HO

theorem core (c : Dev nD) : iprop(unscopedBufs c (fun b => m ((c : Thread nD τ).loc b)) ∗ unscopedSems0 c
        ∗ owes (c : Thread nD τ) (due c 0) ∅ ∗ Pipeline.launchCred (fun d => due d 0) c ∗ prngReg c (ρ c) ∗ G c)
      ⊢ (iprop(bundle m c ∗ (semVal (cell c barL) 0 ∗ G c)) : sProp 𝕄) := by
  rw [show unscopedBufs c (fun b => m ((c : Thread nD τ).loc b)) = StableHlo.held (c : Thread nD τ) bufs (V₀ m c) from unscopedBufs_held c (V₀ m c),
    unscopedSems0_eq]
  unfold bundle OW
  iintro ⟨Hh, Hus, HO, Hcr, Hp, HG⟩
  ihave Hc := (creds_dealt (F := F) c) $$ Hcr
  isplitl [Hh Hc HO Hp]
  · isplitl [Hh]; · iexact Hh
    isplitl [Hc]; · iexact Hc
    isplitl [HO]; · iexists ∅; iexact HO
    iexists (ρ c); iexact Hp
  isplitl [Hus]; · iexact Hus
  iexact HG

theorem init :
    iprop((bigSep Finset.univ fun c : Dev nD => iprop(unscopedBufs c (fun b => m ((c : Thread nD τ).loc b)) ∗ unscopedSems0 c
          ∗ owes (c : Thread nD τ) (due c 0) ∅ ∗ Pipeline.launchCred (fun d => due d 0) c ∗ prngReg c (ρ c) ∗ G c)) ∗ levAts L lv)
      ⊢ (|={Set.univ}=> bigSep Finset.univ (T₀ m) : sProp 𝕄) := by
  have hv : bigSep Finset.univ (fun c : Dev nD => (semVal (cell c barL) 0 : sProp 𝕄)) ⊢ bigSep barCells (fun g => (semVal g 0 : sProp 𝕄)) :=
    BIBase.Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (pos c barL 0 : sProp 𝕄)) :=
    BIBase.Entails.of_eq (bigSep_map (s := Finset.univ) barEmb (Φ := fun g : GSem nD τ sig => (atPos ER g 0 ∅ 0 : sProp 𝕄)))
  have ho : bigSep scCells (fun g => (openTok ER g : sProp 𝕄))
      ⊢ bigSep Finset.univ (fun c : Dev nD => bigSep Finset.univ (fun j : Fin 37 => (openTok ER (cell c (osem j)) : sProp 𝕄))) :=
    BIBase.Entails.of_eq (by unfold scCells; rw [bigSep_map, bigSep_univ_prod]; rfl)
  have hcore : (bigSep Finset.univ fun c : Dev nD => iprop(unscopedBufs c (fun b => m ((c : Thread nD τ).loc b)) ∗ unscopedSems0 c
          ∗ owes (c : Thread nD τ) (due c 0) ∅ ∗ Pipeline.launchCred (fun d => due d 0) c ∗ prngReg c (ρ c) ∗ G c))
      ⊢ (bigSep Finset.univ fun c : Dev nD => iprop(bundle m c ∗ (semVal (cell c barL) 0 ∗ G c)) : sProp 𝕄) :=
    bigSep_mono (fun c _ => core (F := F) m ρ c)
  iintro ⟨H, -⟩
  ihave H' := hcore $$ H
  ihave H2 := (unzip_sep (bundle m) (fun c => iprop(semVal (cell c barL) 0 ∗ G c))) $$ H'
  icases H2 with ⟨HB, H3⟩
  ihave H4 := (unzip_sep (fun c => (semVal (cell c barL) 0 : sProp 𝕄)) G) $$ H3
  icases H4 with ⟨Hv, HG⟩
  ihave Hu := (show bigSep Finset.univ (G (F := F)) ⊢ BI.own (ER (launchOf barCells scCells talkToks)) from
    BIBase.Entails.of_eq (bigSep_at0 (F := F) (BI.own (ER (launchOf barCells scCells talkToks))))) $$ HG
  imod (Rounds.fund_launch ER (talkRd m) disjoint_cells (fun g _ h => h) talkToks) $$ [Hv Hu] with ⟨%K, -, #Hinv, #Hr, Hat, Hopen, Htok⟩
  · isplitl [Hv]
    · iapply hv $$ Hv
    · iexact Hu
  imodintro
  iapply (bigSep_with_persistent (R := records m K) (Φ := fun c => iprop(linear c ∗ bundle m c)) fun c _ => T₀_intro m K c)
  isplitr
  · unfold records
    isplitr; · iexact Hinv
    iexact Hr
  iapply (zip_sep linear (bundle m))
  isplitr [HB]
  · unfold linear
    iapply (zip_sep (myToks (F := F)) (fun c => iprop(pos c barL 0 ∗ bigSep Finset.univ (fun j : Fin 37 => openTok ER (cell c (osem j))))))
    isplitl [Htok]; · iapply (toks_dealt (F := F)) $$ Htok
    iapply (zip_sep (fun c => (pos c barL 0 : sProp 𝕄)) (fun c => bigSep Finset.univ (fun j : Fin 37 => (openTok ER (cell c (osem j)) : sProp 𝕄))))
    isplitl [Hat]; · iapply hat $$ Hat
    iapply ho $$ Hopen
  · iexact HB

/-- @main as its segments. -/
def segs : List (Pipeline.Seg (pcfgs (F := F)) adm (pdats m) () defs₀ 𝒱₀ L lv) := [.host (seg0 m), .region (reg m)]

theorem main_eq (c : Dev nD) : main (F := F) c = Pipeline.Seg.run (segs m) :=
  main_segs adm (pdats m) () 𝒱₀ L lv (seg0 m) (reg m) rfl c

theorem held_out (c : Dev nD) (W : Valuation τ sig (Elt F)) : (StableHlo.held (c : Thread nD τ) bufs W : sProp 𝕄)
    = iprop((((c : Thread nD τ).loc main_arg0) ↦{fullShare} W (Proc.devRef .tc main_arg0)) ∗ (((c : Thread nD τ).loc main_arg1) ↦{fullShare} W (Proc.devRef .tc main_arg1))
      ∗ (((c : Thread nD τ).loc main_v1) ↦{fullShare} W (Proc.devRef .tc main_v1)) ∗ (((c : Thread nD τ).loc main_v2) ↦{fullShare} W (Proc.devRef .tc main_v2))) := by
  unfold StableHlo.held
  rw [bigSep_eq_bigSepL_of_eq [Proc.devRef .tc main_arg0, Proc.devRef .tc main_arg1, Proc.devRef .tc main_v1, Proc.devRef .tc main_v2] (by decide) (by decide)]
  rfl

set_option backward.isDefEq.respectTransparency.types false in
/-- From any memory with zero counters, every weakly fair execution ends with the arguments unchanged, every device's result
    holding the four quarters its group computed, and every counter at zero. -/
theorem run_main : θ_run defs (onTc (τ := τ) (main (F := F))) (s₀ m ρ)
    (fun r => (∀ c : Dev nD, r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_v2) = outv m c) ∧ r.2.sem = fun _ => 0) :=
  Pipeline.θ_run_regions_kit_sems (pcfgs (F := F)) adm (pdats m) () cellOf_inj EP defs₀ 𝒱₀ L lv m ρ main (segs m)
    (fun c Q => by rw [main_eq m c])
    (by simp only [segs, Pipeline.Seg.pipes_host, Pipeline.Seg.pipes_region, Pipeline.Seg.pipes_nil]; decide)
    (O₀ := fun d => due d 0) (hL := L_of_ne) (G := G) (u₀ := u₀)
    (hu₀ := by
      unfold u₀ G
      iintro Hu
      ihave H := (ownU_pair _ _) $$ Hu
      icases H with ⟨HP, HX⟩
      imodintro
      isplitl [HP]; · iexact HP
      rw [bigSep_at0]; iexact HX)
    (T₀ := T₀ m) (Tₙ := Tₙ m)
    (hch := by
      refine ⟨fun c => .rfl, fun c => reg_pre m c, fun c => ?_⟩
      exact reg_post m c)
    (hinit := init m ρ)
    (QY := fun c s => (s.mem ((c : Thread nD τ).loc main_arg0) = m ((c : Thread nD τ).loc main_arg0)
        ∧ s.mem ((c : Thread nD τ).loc main_arg1) = m ((c : Thread nD τ).loc main_arg1)
        ∧ s.mem ((c : Thread nD τ).loc main_v2) = outv m c) ∧ s.sem (cell c barL) = 0)
    (hfin := fun c s' => by
      dsimp only [Tₙ]
      rw [held_out, V₂_out, V₂_ne m c (Proc.devRef .tc main_arg0) (by decide), V₂_ne m c (Proc.devRef .tc main_arg1) (by decide), V₁_arg0, V₁_arg1]
      iintro ⟨⟨⟨H0, H1, -, H2⟩, Hb0⟩, HSI⟩
      icombine HSI H0 gives %h0
      icombine HSI H1 gives %h1
      icombine HSI H2 gives %h2
      icombine HSI Hb0 gives %hb
      imodintro
      isplitr
      · ipureintro
        exact ⟨⟨Buf.eq_of_forall_mem_univ h0, Buf.eq_of_forall_mem_univ h1, Buf.eq_of_forall_mem_univ h2⟩, by simpa using hb⟩
      iexact HSI)
    (hQ := fun s h hs => ⟨fun c => (h c).1,
      sem_eq_zero hs fun c sm hsm => by
        obtain rfl := unscoped_bar sm hsm
        exact (h c).2⟩)

end Cert.Talk

end
-- ==== Proof.Value.lean ====
/- The value the kernel leaves, read at an index over the extended reals, and its equality with the reference's. -/
module

public import proofs.«01_k».proof.Proof.Run
public import proofs.«01_k».proof.Proof.Gen.ReferenceIdeal.Run
public import Idealize.ShloMosaic.Lib.Pointwise

@[expose] public section

noncomputable section

namespace Cert.Whole

open Cert.ReferenceIdeal Cert.ReferenceIdeal.Gen
open Idealize.ShloMosaic Idealize.ShloMosaic.TcCoe Idealize.SL.Sem

/-! ## The reference's result at an index -/

/-- The reference's result of its arguments. -/
def refOut (x : FVec Ideal S2x2048x1024 .f32) (g : FVec Ideal S1024 .f32) :
    FVec Ideal S2048x1024 .f32 :=
  mulf (Host.divf (Host.reduceAdd x (constant S_ .f32 0x00000000#32) reducesTo_S2x2048x1024_S2048x1024_d0 h_S_) (broadcastInDim S2048x1024 ![0, 1] bcast_S2048x1_S2048x1024_0_1 (Host.sqrt (addf (Host.divf (broadcastInDim S2048x1 ![0] bcast_S2048_S2048x1_0 (Host.reduceAdd (mulf (Host.reduceAdd x (constant S_ .f32 0x00000000#32) reducesTo_S2x2048x1024_S2048x1024_d0 h_S_) (Host.reduceAdd x (constant S_ .f32 0x00000000#32) reducesTo_S2x2048x1024_S2048x1024_d0 h_S_)) (constant S_ .f32 0x00000000#32) reducesTo_S2048x1024_S2048_d1 h_S_)) (broadcastInDim S2048x1 ![] bcast_S_S2048x1 (constant S_ .f32 0x44800000#32))) (broadcastInDim S2048x1 ![] bcast_S_S2048x1 (constant S_ .f32 0x358637BD#32)))))) (broadcastInDim S2048x1024 ![0, 1] bcast_S1x1024_S2048x1024_0_1 (broadcastInDim S1x1024 ![1] bcast_S1024_S1x1024_1 g))

/-- The sum of the two halves at a row and a column. -/
def both (x : S2x2048x1024.Idx → EReal) (r : Fin 2048) (k : Fin 1024) : EReal := x (ix3 0 r k) + x (ix3 1 r k)

theorem refOut_apply (x : FVec Ideal S2x2048x1024 .f32) (g : FVec Ideal S1024 .f32)
    (i : S2048x1024.Idx) :
    refOut x g i = Ideal.div (both x (i 0) (i 1)) (Ideal.sqrt (Ideal.div (∑ k : Fin 1024, both x (i 0) k * both x (i 0) k)
        (Ideal.ofBits .f32 0x44800000#32) + Ideal.ofBits .f32 0x358637BD#32)) * g (ix1 (i 1)) := by
  unfold refOut both
  pointwise
  simp only [Fin.sum_univ_two]

end Cert.Whole

namespace Cert.Talk

open Cert.KernelIdeal Cert.KernelIdeal.Gen
open Idealize.ShloMosaic Idealize.ShloMosaic.TcCoe Idealize.SL.Sem

/-! ## The two normalisations agree -/

theorem ofBits_rows : Ideal.ofBits .f32 0x44800000#32 = ((1024 : ℝ) : EReal) := by
  simp [Ideal.ofBits, Ideal.ieee, -EReal.coe_mul]; norm_num

theorem ofBits_eps_pos : ∃ e : ℝ, 0 < e ∧ Ideal.ofBits .f32 0x358637BD#32 = (e : EReal) := by
  refine ⟨8796093 / 2 ^ 43, by norm_num, ?_⟩
  simp [Ideal.ofBits, Ideal.ieee, -EReal.coe_mul]; norm_num

theorem sq_nonneg (y : EReal) : 0 ≤ y * y := by
  induction y with
  | bot => simp
  | top => simp
  | coe r => exact_mod_cast mul_self_nonneg r

/-- Dividing by the root of a positive number is multiplying by its reciprocal root. -/
theorem div_sqrt (y v : EReal) (hv : 0 < v) : Ideal.div y (Ideal.sqrt v) = y * Ideal.rsqrt v := by
  induction v with
  | bot => simp at hv
  | top => simp [Ideal.div]
  | coe r =>
    have hr : 0 < r := by exact_mod_cast hv
    have hs : Real.sqrt r ≠ 0 := (Real.sqrt_pos.mpr hr).ne'
    rw [Ideal.sqrt_coe, if_neg (not_lt.mpr hr.le), Ideal.div_coe hs, Ideal.rsqrt_coe, if_neg (not_lt.mpr hr.le), if_neg hr.ne', one_div]

theorem mean_pos (f : Fin 1024 → EReal) : 0 < Ideal.div (∑ k, f k * f k) (Ideal.ofBits .f32 0x44800000#32) + Ideal.ofBits .f32 0x358637BD#32 := by
  obtain ⟨e, he, hE⟩ := ofBits_eps_pos
  rw [ofBits_rows, hE, Ideal.div_coe (by norm_num)]
  have h1 : 0 ≤ ∑ k, f k * f k := Finset.sum_nonneg fun k _ => sq_nonneg (f k)
  have h2 : 0 ≤ (∑ k, f k * f k) * ((1 / 1024 : ℝ) : EReal) := mul_nonneg h1 (by exact_mod_cast (by norm_num : (0 : ℝ) ≤ 1 / 1024))
  exact lt_of_lt_of_le (by exact_mod_cast he) (le_add_of_nonneg_left h2)

/-! ## A chunk of the kernel's result at an index -/

theorem pay_apply (u w : S64x1024.Idx → EReal) (g : S1x1024.Idx → EReal) (j : S64x1024.Idx) :
    k0_pay4 (F := Ideal) u w g j = (u j + w j)
      * Ideal.rsqrt (Ideal.div (∑ k : Fin 1024, (u (ix2 (j 0) k) + w (ix2 (j 0) k)) * (u (ix2 (j 0) k) + w (ix2 (j 0) k)))
        (Ideal.ofBits .f32 0x44800000#32) + Ideal.ofBits .f32 0x358637BD#32) * g (ix2 0 (j 1)) := by
  unfold k0_pay4
  pointwise

/-! ## Where a chunk's rows lie in a device's argument -/

variable (m : (ℓ : Loc nD τ sig) → Buf (Elt Ideal) ℓ)

theorem row_lt (h q k j : ℕ) (hh : h < 2) (hq : q < 4) (hk : k < 4) (hj : j < 64) : h * 1024 + 256 * q + 64 * k + j < 2048 := by omega
theorem xc_lt (c : Dev nD) : xc c < 2 := by revert c; decide +kernel

theorem reshape_rows (h : S1x64x1024.ShapeCasts S64x1024) (j : S64x1024.Idx) : Shape.reshapeEquiv h j = ix3 0 (j 0) (j 1) := by
  pointwise

theorem emb_rows (off : Fin 3 → ℕ) (inb : ∀ a, off a + S1x64x1024.size a ≤ S1x2048x1024.size a) (h : S1x64x1024.ShapeCasts S64x1024)
    (r : ℕ) (e : off = ![0, r, 0]) (j : S64x1024.Idx) (hr : r + (j 0).val < 2048) :
    (Rect.unit (s := S1x2048x1024) off S1x64x1024.size inb).emb (Shape.reshapeEquiv h j) = ix3 0 ⟨r + (j 0).val, hr⟩ (j 1) := by
  subst e
  rw [reshape_rows]
  funext a
  match a with
  | 0 => exact Fin.ext (by show 0 + 1 * 0 = 0; omega)
  | 1 => exact Fin.ext (by show r + 1 * (j 0).val = r + (j 0).val; omega)
  | 2 => exact Fin.ext (by show 0 + 1 * (j 1).val = (j 1).val; omega)

theorem own_apply (c : Dev nD) (k : Fin 4) (j : S64x1024.Idx) :
    own m c k j = m ((c : Thread nD τ).loc main_arg0)
      (ix3 0 ⟨xc c * 1024 + 256 * (qt c).val + 64 * k.val + (j 0).val, row_lt _ _ _ _ (xc_lt c) (qt c).isLt k.isLt (j 0).isLt⟩ (j 1)) := by
  have hs : S1x64x1024.ShapeCasts S64x1024 := by decide
  show m ((c : Thread nD τ).loc main_arg0) ((Rect.unit (s := S1x2048x1024) (k0_off2 c (BitVec.ofNat 32 (64 * k.val))) S1x64x1024.size (k0_off2_inb c k)).emb (Shape.reshapeEquiv hs j)) = _
  exact congrArg _ (emb_rows _ _ _ _ (off2_eq c k) j _)

theorem snd_apply (c : Dev nD) (k : Fin 4) (j : S64x1024.Idx) :
    snd m c k j = m ((c : Thread nD τ).loc main_arg0)
      (ix3 0 ⟨(1 - xc c) * 1024 + 256 * (qt c).val + 64 * k.val + (j 0).val, row_lt _ _ _ _ (by omega) (qt c).isLt k.isLt (j 0).isLt⟩ (j 1)) := by
  have hs : S1x64x1024.ShapeCasts S64x1024 := by decide
  show m ((c : Thread nD τ).loc main_arg0) ((Rect.unit (s := S1x2048x1024) (k0_off1 c (BitVec.ofNat 32 (64 * k.val))) S1x64x1024.size (k0_off1_inb c k)).emb (Shape.reshapeEquiv hs j)) = _
  exact congrArg _ (emb_rows _ _ _ _ (off1_eq c k) j _)

theorem gam_apply (c : Dev nD) (q : Fin 1024) : gam m c (ix2 0 q) = m ((c : Thread nD τ).loc main_arg1) (ix1 q) := by
  unfold gam
  have : V₁ m c main_v1 = shapeCast S1x1024 (m ((c : Thread nD τ).loc main_arg1)) shapeCasts_S1024_S1x1024 := rfl
  rw [this]
  pointwise

theorem xc_srcOf (c : Dev nD) (a : Fin 4) : xc (srcOf c a) = xc c := by revert c a; decide +kernel
theorem qt_srcOf (c : Dev nD) (a : Fin 4) : qt (srcOf c a) = a := by revert c a; decide +kernel
theorem xc_pX (c : Dev nD) : xc (pX c) = 1 - xc c := by revert c; decide +kernel
theorem qt_pX (c : Dev nD) : qt (pX c) = qt c := by revert c; decide +kernel

/-! ## The devices' blocks of the whole arrays -/

/-- A device's block number along the cut axis is its coordinate on the x axis. -/
theorem block3_val (c : Dev nD) : (Layout.meshBlock (r := 3) [2, 4, 4] ![[0], [], []] c (by decide) 0).val = xc c := by revert c; decide +kernel
theorem block2_val (c : Dev nD) : (Layout.meshBlock (r := 2) [2, 4, 4] ![[0], []] c (by decide) 0).val = xc c := by revert c; decide +kernel

theorem block3_apply (x : (⟨3, ![2, 2048, 1024]⟩ : Shape).Idx → EReal) (c : Dev nD) (r : Fin 2048) (q : Fin 1024) :
    Layout.blockN ⟨3, ![1, 2048, 1024]⟩ ⟨3, ![2, 2048, 1024]⟩ (Layout.meshBlock [2, 4, 4] ![[0], [], []] c) x (by decide) (ix3 0 r q)
      = x (ix3 ⟨xc c, xc_lt c⟩ r q) := by
  rw [Layout.blockN_apply]
  congr 1
  funext a
  match a with
  | 0 => exact Fin.ext (by
      show (Layout.meshBlock (r := 3) [2, 4, 4] ![[0], [], []] c (by decide) 0).val * 1 + 0 = xc c
      rw [block3_val]; omega)
  | 1 => exact Fin.ext (by show 0 * 2048 + r.val = r.val; omega)
  | 2 => exact Fin.ext (by show 0 * 1024 + q.val = q.val; omega)

theorem block2_apply (y : (⟨2, ![2048, 1024]⟩ : Shape).Idx → EReal) (c : Dev nD) (i : (⟨2, ![1024, 1024]⟩ : Shape).Idx) (h : xc c * 1024 + (i 0).val < 2048) :
    Layout.blockN ⟨2, ![1024, 1024]⟩ ⟨2, ![2048, 1024]⟩ (Layout.meshBlock [2, 4, 4] ![[0], []] c) y (by decide) i
      = y (ix2 ⟨xc c * 1024 + (i 0).val, h⟩ (i 1)) := by
  rw [Layout.blockN_apply]
  congr 1
  funext a
  match a with
  | 0 => exact Fin.ext (by
      show (Layout.meshBlock (r := 2) [2, 4, 4] ![[0], []] c (by decide) 0).val * 1024 + (i 0).val = xc c * 1024 + (i 0).val
      rw [block2_val])
  | 1 => exact Fin.ext (by show 0 * 1024 + (i 1).val = (i 1).val; omega)

/-! ## The result -/

variable (x : (⟨3, ![2, 2048, 1024]⟩ : Shape).Idx → EReal) (g : (⟨1, ![1024]⟩ : Shape).Idx → EReal)

/-- What the launch memory must hold: every device its block of the stacked array, and the whole scale. -/
def Holds : Prop := ∀ c : Dev nD,
  m ((c : Thread nD τ).loc main_arg0) = Layout.blockN ⟨3, ![1, 2048, 1024]⟩ ⟨3, ![2, 2048, 1024]⟩ (Layout.meshBlock [2, 4, 4] ![[0], [], []] c) x
    ∧ m ((c : Thread nD τ).loc main_arg1) = g

/-- The sum of what a device keeps and what it is sent, at an entry of chunk `k`, is the reference's sum there. -/
theorem pair_apply (hm : Holds m x g) (c : Dev nD) (a k : Fin 4) (j : S64x1024.Idx) (h : xc c * 1024 + 256 * a.val + 64 * k.val + (j 0).val < 2048) :
    own m (srcOf c a) k j + snd m (pX (srcOf c a)) k j
      = Cert.Whole.both x ⟨xc c * 1024 + 256 * a.val + 64 * k.val + (j 0).val, h⟩ (j 1) := by
  have h1 : own m (srcOf c a) k j = x (ix3 ⟨xc c, xc_lt c⟩ ⟨xc c * 1024 + 256 * a.val + 64 * k.val + (j 0).val, h⟩ (j 1)) := by
    rw [own_apply, (hm (srcOf c a)).1]
    refine (block3_apply x _ _ _).trans ?_
    congr 2
    · exact Fin.ext (xc_srcOf c a)
    · exact Fin.ext (by show xc (srcOf c a) * 1024 + 256 * (qt (srcOf c a)).val + 64 * k.val + (j 0).val = _; rw [xc_srcOf, qt_srcOf])
  have h2 : snd m (pX (srcOf c a)) k j = x (ix3 ⟨1 - xc c, by omega⟩ ⟨xc c * 1024 + 256 * a.val + 64 * k.val + (j 0).val, h⟩ (j 1)) := by
    rw [snd_apply, (hm (pX (srcOf c a))).1]
    refine (block3_apply x _ _ _).trans ?_
    congr 2
    · exact Fin.ext (by show xc (pX (srcOf c a)) = _; rw [xc_pX, xc_srcOf])
    · exact Fin.ext (by
        have := xc_lt c
        show (1 - xc (pX (srcOf c a))) * 1024 + 256 * (qt (pX (srcOf c a))).val + 64 * k.val + (j 0).val = _
        rw [xc_pX, xc_srcOf, qt_pX, qt_srcOf, show 1 - (1 - xc c) = xc c by omega])
  rw [h1, h2]
  unfold Cert.Whole.both
  have hx := xc_lt c
  have hx : xc c = 0 ∨ xc c = 1 := by omega
  rcases hx with hx | hx
  · congr 3 <;> exact Fin.ext (by simp [hx])
  · rw [add_comm]
    congr 3 <;> exact Fin.ext (by simp [hx])

/-- Every device ends with its block of the reference's result. -/
theorem outv_eq (hm : Holds m x g) (c : Dev nD) :
    outv m c = Layout.blockN ⟨2, ![1024, 1024]⟩ ⟨2, ![2048, 1024]⟩ (Layout.meshBlock [2, 4, 4] ![[0], []] c) (Cert.Whole.refOut x g) := by
  funext i
  have hi : (i 0).val < 1024 := (i 0).isLt
  have hx := xc_lt c
  have hrow : xc c * 1024 + (i 0).val < 2048 := by omega
  rw [block2_apply _ c i hrow, Cert.Whole.refOut_apply]
  have hl : outv m c i = res m (srcOf c ⟨(i 0).val / 256 % 4, Nat.mod_lt _ (by decide)⟩) ⟨(i 0).val / 64 % 4, Nat.mod_lt _ (by decide)⟩ (sub (i 0).val (i 1)) := rfl
  rw [hl]
  generalize ha : (⟨(i 0).val / 256 % 4, Nat.mod_lt _ (by decide)⟩ : Fin 4) = a
  generalize hk : (⟨(i 0).val / 64 % 4, Nat.mod_lt _ (by decide)⟩ : Fin 4) = k
  have ha' : (i 0).val / 256 % 4 = a.val := congrArg Fin.val ha
  have hk' : (i 0).val / 64 % 4 = k.val := congrArg Fin.val hk
  have hp : ∀ q : Fin 1024, own m (srcOf c a) k (ix2 (sub (i 0).val (i 1) 0) q) + snd m (pX (srcOf c a)) k (ix2 (sub (i 0).val (i 1) 0) q)
      = Cert.Whole.both x ⟨xc c * 1024 + (i 0).val, hrow⟩ q := fun q => by
    have hr : xc c * 1024 + 256 * a.val + 64 * k.val + (i 0).val % 64 = xc c * 1024 + (i 0).val := by omega
    refine (pair_apply m x g hm c a k (ix2 (sub (i 0).val (i 1) 0) q) (by show _ + (i 0).val % 64 < 2048; omega)).trans ?_
    congr 1
    exact Fin.ext hr
  have he : sub (i 0).val (i 1) = ix2 (sub (i 0).val (i 1) 0) (i 1) := eq_ix2 _
  unfold res
  have hg : gam m (srcOf c a) (ix2 0 (sub (i 0).val (i 1) 1)) = g (ix1 (i 1)) :=
    (gam_apply m (srcOf c a) (i 1)).trans (congrFun (hm (srcOf c a)).2 _)
  rw [pay_apply, hg]
  simp only [hp]
  have hq : own m (srcOf c a) k (sub (i 0).val (i 1)) + snd m (pX (srcOf c a)) k (sub (i 0).val (i 1))
      = Cert.Whole.both x ⟨xc c * 1024 + (i 0).val, hrow⟩ (i 1) := by
    rw [he]; exact hp (i 1)
  rw [hq, ← div_sqrt _ _ (mean_pos _)]
  rfl

end Cert.Talk

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Value
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The two programs have one text: the kernel's body table is the idealized one's, label by label. -/
theorem bodies_eq : Cert.Kernel.defs₀ (F := Bits) = Cert.KernelIdeal.defs₀ (F := Bits) := by
  refine congrArg Defs.onTc ?_
  funext l x
  match l with
  | 0 => rfl

theorem defs_eq : Cert.Kernel.defs (F := Bits) = Cert.KernelIdeal.defs (F := Bits) :=
  congrArg (Pipeline.defs (Cert.KernelIdeal.pcfgs (F := Bits))) bodies_eq

theorem frame_kernel : Cert.quiescent_Kernel := by
  intro m ρ _
  have h : θ_run (Cert.KernelIdeal.defs (F := Bits)) (onTc (τ := Cert.KernelIdeal.τ) (Cert.KernelIdeal.main (F := Bits))) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) :=
    (θ_run Cert.KernelIdeal.defs _ _).mono (fun _ h => ⟨fun c => ⟨(h.1 c).1, (h.1 c).2.1⟩, h.2⟩) (Cert.Talk.run_main (F := Bits) m ρ)
  rw [defs_eq]
  exact h

theorem frame_ideal : Cert.quiescent_KernelIdeal := fun m ρ _ =>
  (θ_run Cert.KernelIdeal.defs _ _).mono (fun _ h => ⟨fun c => ⟨(h.1 c).1, (h.1 c).2.1⟩, h.2⟩) (Cert.Talk.run_main (F := Ideal) m ρ)

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Every device ends with its block of the reference's result. -/
theorem value : Cert.algebraic_KernelIdeal_ReferenceIdeal := by
  intro m ρ m' ρ' _ hm
  refine ⟨Cert.Whole.refOut (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1)), ?_, ?_⟩
  · exact (θ_run Cert.KernelIdeal.defs _ _).mono
      (fun _ h c => ⟨(h.1 c).2.2.trans (Cert.Talk.outv_eq m _ _ hm c), (h.1 c).1, (h.1 c).2.1⟩) (Cert.Talk.run_main (F := Ideal) m ρ)
  · exact (θ_run Cert.ReferenceIdeal.defs _ _).mono (fun _ h => h 0) (Cert.ReferenceIdeal.Value.run (F := Ideal) m' ρ')

theorem claim : Cert.Claim := ⟨Cert.Kernel.Gen.facts, Cert.KernelIdeal.Gen.facts, Cert.ReferenceIdeal.Gen.facts,
  frame_kernel, frame_ideal, frame_reference, trivial, value⟩

end Cert.Proof

end
